-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S1024x1024 : Shape := ⟨2, ![1024, 1024]⟩
abbrev S32x1024 : Shape := ⟨2, ![32, 1024]⟩
abbrev S32x32x32 : Shape := ⟨3, ![32, 32, 32]⟩
abbrev S32 : Shape := ⟨1, ![32]⟩
abbrev S_ : Shape := ⟨0, ![]⟩
abbrev S1 : Shape := ⟨1, ![1]⟩
abbrev S1x32x32 : Shape := ⟨3, ![1, 32, 32]⟩
abbrev S32x32 : Shape := ⟨2, ![32, 32]⟩

abbrev nBuf : Space → Nat
  | .hbm => 3
  | .vmem => 4
  | .smem => 0
  | _ => 0

abbrev bufTy : (tb : Table) → Fin (tcTables nBuf tb) → BufTy
  | .hbm, ⟨0, _⟩ => ⟨S1024x32, .f32⟩
  | .hbm, ⟨1, _⟩ => ⟨S1024x1024, .f32⟩
  | .hbm, ⟨2, _⟩ => ⟨S32x1024, .f32⟩
  | .local _ .vmem, ⟨0, _⟩ => ⟨S1024x32, .f32⟩
  | .local _ .vmem, ⟨1, _⟩ => ⟨S1024x1024, .f32⟩
  | .local _ .vmem, ⟨2, _⟩ => ⟨S32x1024, .f32⟩
  | .local _ .vmem, ⟨3, _⟩ => ⟨S32x32x32, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_131 : BitVec 32 := 0#32
  let c0_i32_132 : BitVec 32 := 0#32
  ![v2.toNat, 0, 0]
def k0_off3 (d0 : Dev nD) (c1_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c32_i32_127 : BitVec 32 := 32#32
  let v130 : BitVec 32 := Scalar.muli v129 c32_i32_127
  let c0_i32_133 : BitVec 32 := 0#32
  ![v130.toNat, 0]
def k0_dev32 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_129 : BitVec 32 := 1#32
  let v131 : BitVec 32 := Scalar.muli v129 c1_i32_129
  let v132 : BitVec 32 := Scalar.addi c0_i32_130 v131
  v132.toNat
def k0_dev33 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v140 : BitVec 32 := Scalar.addi v2 c2_i32_134
  let c32_i32_135 : BitVec 32 := 32#32
  let v141 : BitVec 32 := Scalar.remsi v140 c32_i32_135
  let c1_i32_138 : BitVec 32 := 1#32
  let v143 : BitVec 32 := Scalar.muli v141 c1_i32_138
  let v144 : BitVec 32 := Scalar.addi c0_i32_139 v143
  v144.toNat
def k0_dev34 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_143 : BitVec 32 := 3#32
  let v152 : BitVec 32 := Scalar.addi v2 c3_i32_143
  let c32_i32_144 : BitVec 32 := 32#32
  let v153 : BitVec 32 := Scalar.remsi v152 c32_i32_144
  let c1_i32_147 : BitVec 32 := 1#32
  let v155 : BitVec 32 := Scalar.muli v153 c1_i32_147
  let v156 : BitVec 32 := Scalar.addi c0_i32_148 v155
  v156.toNat
def k0_dev35 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_152 : BitVec 32 := 4#32
  let v164 : BitVec 32 := Scalar.addi v2 c4_i32_152
  let c32_i32_153 : BitVec 32 := 32#32
  let v165 : BitVec 32 := Scalar.remsi v164 c32_i32_153
  let c1_i32_156 : BitVec 32 := 1#32
  let v167 : BitVec 32 := Scalar.muli v165 c1_i32_156
  let v168 : BitVec 32 := Scalar.addi c0_i32_157 v167
  v168.toNat
def k0_dev36 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_161 : BitVec 32 := 5#32
  let v176 : BitVec 32 := Scalar.addi v2 c5_i32_161
  let c32_i32_162 : BitVec 32 := 32#32
  let v177 : BitVec 32 := Scalar.remsi v176 c32_i32_162
  let c1_i32_165 : BitVec 32 := 1#32
  let v179 : BitVec 32 := Scalar.muli v177 c1_i32_165
  let v180 : BitVec 32 := Scalar.addi c0_i32_166 v179
  v180.toNat
def k0_dev37 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_170 : BitVec 32 := 6#32
  let v188 : BitVec 32 := Scalar.addi v2 c6_i32_170
  let c32_i32_171 : BitVec 32 := 32#32
  let v189 : BitVec 32 := Scalar.remsi v188 c32_i32_171
  let c1_i32_174 : BitVec 32 := 1#32
  let v191 : BitVec 32 := Scalar.muli v189 c1_i32_174
  let v192 : BitVec 32 := Scalar.addi c0_i32_175 v191
  v192.toNat
def k0_dev38 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_179 : BitVec 32 := 7#32
  let v200 : BitVec 32 := Scalar.addi v2 c7_i32_179
  let c32_i32_180 : BitVec 32 := 32#32
  let v201 : BitVec 32 := Scalar.remsi v200 c32_i32_180
  let c1_i32_183 : BitVec 32 := 1#32
  let v203 : BitVec 32 := Scalar.muli v201 c1_i32_183
  let v204 : BitVec 32 := Scalar.addi c0_i32_184 v203
  v204.toNat
def k0_dev39 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_188 : BitVec 32 := 8#32
  let v212 : BitVec 32 := Scalar.addi v2 c8_i32_188
  let c32_i32_189 : BitVec 32 := 32#32
  let v213 : BitVec 32 := Scalar.remsi v212 c32_i32_189
  let c1_i32_192 : BitVec 32 := 1#32
  let v215 : BitVec 32 := Scalar.muli v213 c1_i32_192
  let v216 : BitVec 32 := Scalar.addi c0_i32_193 v215
  v216.toNat
def k0_dev40 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_197 : BitVec 32 := 9#32
  let v224 : BitVec 32 := Scalar.addi v2 c9_i32_197
  let c32_i32_198 : BitVec 32 := 32#32
  let v225 : BitVec 32 := Scalar.remsi v224 c32_i32_198
  let c1_i32_201 : BitVec 32 := 1#32
  let v227 : BitVec 32 := Scalar.muli v225 c1_i32_201
  let v228 : BitVec 32 := Scalar.addi c0_i32_202 v227
  v228.toNat
def k0_dev41 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_206 : BitVec 32 := 10#32
  let v236 : BitVec 32 := Scalar.addi v2 c10_i32_206
  let c32_i32_207 : BitVec 32 := 32#32
  let v237 : BitVec 32 := Scalar.remsi v236 c32_i32_207
  let c1_i32_210 : BitVec 32 := 1#32
  let v239 : BitVec 32 := Scalar.muli v237 c1_i32_210
  let v240 : BitVec 32 := Scalar.addi c0_i32_211 v239
  v240.toNat
def k0_dev42 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_215 : BitVec 32 := 11#32
  let v248 : BitVec 32 := Scalar.addi v2 c11_i32_215
  let c32_i32_216 : BitVec 32 := 32#32
  let v249 : BitVec 32 := Scalar.remsi v248 c32_i32_216
  let c1_i32_219 : BitVec 32 := 1#32
  let v251 : BitVec 32 := Scalar.muli v249 c1_i32_219
  let v252 : BitVec 32 := Scalar.addi c0_i32_220 v251
  v252.toNat
def k0_dev43 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_224 : BitVec 32 := 12#32
  let v260 : BitVec 32 := Scalar.addi v2 c12_i32_224
  let c32_i32_225 : BitVec 32 := 32#32
  let v261 : BitVec 32 := Scalar.remsi v260 c32_i32_225
  let c1_i32_228 : BitVec 32 := 1#32
  let v263 : BitVec 32 := Scalar.muli v261 c1_i32_228
  let v264 : BitVec 32 := Scalar.addi c0_i32_229 v263
  v264.toNat
def k0_dev44 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_233 : BitVec 32 := 13#32
  let v272 : BitVec 32 := Scalar.addi v2 c13_i32_233
  let c32_i32_234 : BitVec 32 := 32#32
  let v273 : BitVec 32 := Scalar.remsi v272 c32_i32_234
  let c1_i32_237 : BitVec 32 := 1#32
  let v275 : BitVec 32 := Scalar.muli v273 c1_i32_237
  let v276 : BitVec 32 := Scalar.addi c0_i32_238 v275
  v276.toNat
def k0_dev45 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_242 : BitVec 32 := 14#32
  let v284 : BitVec 32 := Scalar.addi v2 c14_i32_242
  let c32_i32_243 : BitVec 32 := 32#32
  let v285 : BitVec 32 := Scalar.remsi v284 c32_i32_243
  let c1_i32_246 : BitVec 32 := 1#32
  let v287 : BitVec 32 := Scalar.muli v285 c1_i32_246
  let v288 : BitVec 32 := Scalar.addi c0_i32_247 v287
  v288.toNat
def k0_dev46 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_251 : BitVec 32 := 15#32
  let v296 : BitVec 32 := Scalar.addi v2 c15_i32_251
  let c32_i32_252 : BitVec 32 := 32#32
  let v297 : BitVec 32 := Scalar.remsi v296 c32_i32_252
  let c1_i32_255 : BitVec 32 := 1#32
  let v299 : BitVec 32 := Scalar.muli v297 c1_i32_255
  let v300 : BitVec 32 := Scalar.addi c0_i32_256 v299
  v300.toNat
def k0_dev47 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_260 : BitVec 32 := 16#32
  let v308 : BitVec 32 := Scalar.addi v2 c16_i32_260
  let c32_i32_261 : BitVec 32 := 32#32
  let v309 : BitVec 32 := Scalar.remsi v308 c32_i32_261
  let c1_i32_264 : BitVec 32 := 1#32
  let v311 : BitVec 32 := Scalar.muli v309 c1_i32_264
  let v312 : BitVec 32 := Scalar.addi c0_i32_265 v311
  v312.toNat
def k0_dev48 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_269 : BitVec 32 := 17#32
  let v320 : BitVec 32 := Scalar.addi v2 c17_i32_269
  let c32_i32_270 : BitVec 32 := 32#32
  let v321 : BitVec 32 := Scalar.remsi v320 c32_i32_270
  let c1_i32_273 : BitVec 32 := 1#32
  let v323 : BitVec 32 := Scalar.muli v321 c1_i32_273
  let v324 : BitVec 32 := Scalar.addi c0_i32_274 v323
  v324.toNat
def k0_dev49 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_278 : BitVec 32 := 18#32
  let v332 : BitVec 32 := Scalar.addi v2 c18_i32_278
  let c32_i32_279 : BitVec 32 := 32#32
  let v333 : BitVec 32 := Scalar.remsi v332 c32_i32_279
  let c1_i32_282 : BitVec 32 := 1#32
  let v335 : BitVec 32 := Scalar.muli v333 c1_i32_282
  let v336 : BitVec 32 := Scalar.addi c0_i32_283 v335
  v336.toNat
def k0_dev50 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_287 : BitVec 32 := 19#32
  let v344 : BitVec 32 := Scalar.addi v2 c19_i32_287
  let c32_i32_288 : BitVec 32 := 32#32
  let v345 : BitVec 32 := Scalar.remsi v344 c32_i32_288
  let c1_i32_291 : BitVec 32 := 1#32
  let v347 : BitVec 32 := Scalar.muli v345 c1_i32_291
  let v348 : BitVec 32 := Scalar.addi c0_i32_292 v347
  v348.toNat
def k0_dev51 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_296 : BitVec 32 := 20#32
  let v356 : BitVec 32 := Scalar.addi v2 c20_i32_296
  let c32_i32_297 : BitVec 32 := 32#32
  let v357 : BitVec 32 := Scalar.remsi v356 c32_i32_297
  let c1_i32_300 : BitVec 32 := 1#32
  let v359 : BitVec 32 := Scalar.muli v357 c1_i32_300
  let v360 : BitVec 32 := Scalar.addi c0_i32_301 v359
  v360.toNat
def k0_dev52 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_305 : BitVec 32 := 21#32
  let v368 : BitVec 32 := Scalar.addi v2 c21_i32_305
  let c32_i32_306 : BitVec 32 := 32#32
  let v369 : BitVec 32 := Scalar.remsi v368 c32_i32_306
  let c1_i32_309 : BitVec 32 := 1#32
  let v371 : BitVec 32 := Scalar.muli v369 c1_i32_309
  let v372 : BitVec 32 := Scalar.addi c0_i32_310 v371
  v372.toNat
def k0_dev53 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_314 : BitVec 32 := 22#32
  let v380 : BitVec 32 := Scalar.addi v2 c22_i32_314
  let c32_i32_315 : BitVec 32 := 32#32
  let v381 : BitVec 32 := Scalar.remsi v380 c32_i32_315
  let c1_i32_318 : BitVec 32 := 1#32
  let v383 : BitVec 32 := Scalar.muli v381 c1_i32_318
  let v384 : BitVec 32 := Scalar.addi c0_i32_319 v383
  v384.toNat
def k0_dev54 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_323 : BitVec 32 := 23#32
  let v392 : BitVec 32 := Scalar.addi v2 c23_i32_323
  let c32_i32_324 : BitVec 32 := 32#32
  let v393 : BitVec 32 := Scalar.remsi v392 c32_i32_324
  let c1_i32_327 : BitVec 32 := 1#32
  let v395 : BitVec 32 := Scalar.muli v393 c1_i32_327
  let v396 : BitVec 32 := Scalar.addi c0_i32_328 v395
  v396.toNat
def k0_dev55 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_332 : BitVec 32 := 24#32
  let v404 : BitVec 32 := Scalar.addi v2 c24_i32_332
  let c32_i32_333 : BitVec 32 := 32#32
  let v405 : BitVec 32 := Scalar.remsi v404 c32_i32_333
  let c1_i32_336 : BitVec 32 := 1#32
  let v407 : BitVec 32 := Scalar.muli v405 c1_i32_336
  let v408 : BitVec 32 := Scalar.addi c0_i32_337 v407
  v408.toNat
def k0_dev56 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_341 : BitVec 32 := 25#32
  let v416 : BitVec 32 := Scalar.addi v2 c25_i32_341
  let c32_i32_342 : BitVec 32 := 32#32
  let v417 : BitVec 32 := Scalar.remsi v416 c32_i32_342
  let c1_i32_345 : BitVec 32 := 1#32
  let v419 : BitVec 32 := Scalar.muli v417 c1_i32_345
  let v420 : BitVec 32 := Scalar.addi c0_i32_346 v419
  v420.toNat
def k0_dev57 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_350 : BitVec 32 := 26#32
  let v428 : BitVec 32 := Scalar.addi v2 c26_i32_350
  let c32_i32_351 : BitVec 32 := 32#32
  let v429 : BitVec 32 := Scalar.remsi v428 c32_i32_351
  let c1_i32_354 : BitVec 32 := 1#32
  let v431 : BitVec 32 := Scalar.muli v429 c1_i32_354
  let v432 : BitVec 32 := Scalar.addi c0_i32_355 v431
  v432.toNat
def k0_dev58 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_359 : BitVec 32 := 27#32
  let v440 : BitVec 32 := Scalar.addi v2 c27_i32_359
  let c32_i32_360 : BitVec 32 := 32#32
  let v441 : BitVec 32 := Scalar.remsi v440 c32_i32_360
  let c1_i32_363 : BitVec 32 := 1#32
  let v443 : BitVec 32 := Scalar.muli v441 c1_i32_363
  let v444 : BitVec 32 := Scalar.addi c0_i32_364 v443
  v444.toNat
def k0_dev59 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_368 : BitVec 32 := 28#32
  let v452 : BitVec 32 := Scalar.addi v2 c28_i32_368
  let c32_i32_369 : BitVec 32 := 32#32
  let v453 : BitVec 32 := Scalar.remsi v452 c32_i32_369
  let c1_i32_372 : BitVec 32 := 1#32
  let v455 : BitVec 32 := Scalar.muli v453 c1_i32_372
  let v456 : BitVec 32 := Scalar.addi c0_i32_373 v455
  v456.toNat
def k0_dev60 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_377 : BitVec 32 := 29#32
  let v464 : BitVec 32 := Scalar.addi v2 c29_i32_377
  let c32_i32_378 : BitVec 32 := 32#32
  let v465 : BitVec 32 := Scalar.remsi v464 c32_i32_378
  let c1_i32_381 : BitVec 32 := 1#32
  let v467 : BitVec 32 := Scalar.muli v465 c1_i32_381
  let v468 : BitVec 32 := Scalar.addi c0_i32_382 v467
  v468.toNat
def k0_dev61 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_386 : BitVec 32 := 30#32
  let v476 : BitVec 32 := Scalar.addi v2 c30_i32_386
  let c32_i32_387 : BitVec 32 := 32#32
  let v477 : BitVec 32 := Scalar.remsi v476 c32_i32_387
  let c1_i32_390 : BitVec 32 := 1#32
  let v479 : BitVec 32 := Scalar.muli v477 c1_i32_390
  let v480 : BitVec 32 := Scalar.addi c0_i32_391 v479
  v480.toNat
def k0_dev62 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_395 : BitVec 32 := 31#32
  let v488 : BitVec 32 := Scalar.addi v2 c31_i32_395
  let c32_i32_396 : BitVec 32 := 32#32
  let v489 : BitVec 32 := Scalar.remsi v488 c32_i32_396
  let c1_i32_399 : BitVec 32 := 1#32
  let v491 : BitVec 32 := Scalar.muli v489 c1_i32_399
  let v492 : BitVec 32 := Scalar.addi c0_i32_400 v491
  v492.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_404 : BitVec 32 := 32#32
  let v500 : BitVec 32 := Scalar.muli v2 c32_i32_404
  let v501 : Index := Scalar.indexCast v500
  let c0 : Index := 0#32
  ![v501.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : Index := Scalar.indexCast v2
  let c0_405 : Index := 0#32
  let c0_406 : Index := 0#32
  ![v504.toNat, 0, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Loop.lean ====
/-
The kernel's body as four loops over literal lists: the entry signals, the copies, the waits with their loads, and the waits for the
sends. The text is unrolled; each loop here is the same text with the step written once.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Exchange

open Cert.KernelIdeal Cert.KernelIdeal.Gen
open Idealize.ShloMosaic
open Idealize.ShloMosaic.TcCoe
open Idealize.SL Idealize.SL.Sem

variable {F : FTy → Type} [FloatOps F]

/-- The body's programs. -/
abbrev Body (F : FTy → Type) [FloatOps F] : Type 1 := Prog (TpuEff nD τ sig (Elt F) Λ₀ .tc) PUnit

/-! ## The names -/

abbrev xM : Memref sig .tc .vmem S1024x32 .f32 := Memref.whole cc0_stg0_0
abbrev wM : Memref sig .tc .vmem S1024x1024 .f32 := Memref.whole cc0_stg1_0
abbrev oM : Memref sig .tc .vmem S32x1024 .f32 := Memref.whole cc0_stg2_0
abbrev gM : Memref sig .tc .vmem S32x32x32 .f32 := Memref.whole cc0_scratch0
abbrev barS : Sem sig := (SemArray.scalar (sig.barrier 0 rfl) : Sems sig S_).sem

/-- The word the kernel computes for the `r`-th peer of device `c`. -/
def wordTo (c : Dev nD) (r : Fin 31) : BitVec 32 :=
  Scalar.addi 0#32 (Scalar.muli (Scalar.remsi (Scalar.addi (Scalar.remsi (Scalar.divsi (Dev.word c) 1#32) 32#32)
    (BitVec.ofNat 32 (1 + r.val))) 32#32) 1#32)
theorem wordTo_eq : ∀ (c : Dev nD) (r : Fin 31), (wordTo c r).toNat = (c.val + r.val + 1) % 32 := by decide +kernel
theorem wordTo_lt (c : Dev nD) (r : Fin 31) : (wordTo c r).toNat < nD := by
  rw [wordTo_eq]; exact Nat.mod_lt _ (by decide)
/-- The `r`-th peer of device `c`. -/
def peer (c : Dev nD) (r : Fin 31) : Dev nD := ⟨(wordTo c r).toNat, wordTo_lt c r⟩

theorem inb_sem (j : Fin 32) : ∀ a, (![j.val] : Fin 1 → Nat) a + S1.size a ≤ S32.size a := by
  intro a; fin_cases a; exact j.isLt
theorem inb_slot (j : Fin 32) : ∀ a, (![j.val, 0, 0] : Fin 3 → Nat) a + S1x32x32.size a ≤ S32x32x32.size a := by
  intro a
  match a with
  | 0 => exact j.isLt
  | 1 => exact Nat.le_refl 32
  | 2 => exact Nat.le_refl 32
theorem inb_row (j : Fin 32) : ∀ a, (![32 * j.val, 0] : Fin 2 → Nat) a + S32x32.size a ≤ S1024x32.size a := by
  intro a
  match a with
  | 0 => show 32 * j.val + 32 ≤ 1024; have := j.isLt; omega
  | 1 => exact Nat.le_refl 32
theorem inb_wrow (j : Fin 32) : ∀ a, (![32 * j.val, 0] : Fin 2 → Nat) a + S32x1024.size a ≤ S1024x1024.size a := by
  intro a
  match a with
  | 0 => show 32 * j.val + 32 ≤ 1024; have := j.isLt; omega
  | 1 => exact Nat.le_refl 1024

/-- The semaphore of the copies with the `r`-th peer, and the one the block from device `j` arrives on. -/
abbrev sendS (j : Fin 32) : DmaSem sig :=
  ((cc0_scratch1.slice (Rect.unit (s := S32) ![j.val] S1.size (inb_sem j))).squeeze S_ squeezes_S1_S_).sem
abbrev recvS (j : Fin 32) : DmaSem sig :=
  ((cc0_scratch2.slice (Rect.unit (s := S32) ![j.val] S1.size (inb_sem j))).squeeze S_ squeezes_S1_S_).sem
/-- Slot `j` of the gathered blocks, as a 32 by 32 block. -/
abbrev slotM (j : Fin 32) : Memref sig .tc .vmem S32x32 .f32 :=
  (gM.slice (Rect.unit (s := S32x32x32) ![j.val, 0, 0] S1x32x32.size (inb_slot j)) (fun _ => rfl)).squeeze S32x32 squeezes_S1x32x32_S32x32
/-- Rows `32 j …` of the device's columns of `x`. -/
abbrev rowM (j : Fin 32) : Memref sig .tc .vmem S32x32 .f32 :=
  xM.slice (Rect.unit (s := S1024x32) ![32 * j.val, 0] S32x32.size (inb_row j)) (fun _ => rfl)

/-- The same as the kernel addresses them, from its device id. -/
abbrev sendSk (r : Fin 31) : DmaSem sig :=
  ((cc0_scratch1.slice (Rect.unit (s := S32) ![1 + r.val] S1.size (inb_sem ⟨1 + r.val, by omega⟩))).squeeze S_ squeezes_S1_S_).sem
abbrev recvSk (c : Dev nD) : DmaSem sig :=
  ((cc0_scratch2.slice (Rect.unit (s := S32) (k0_off1 c) S1.size (k0_off1_inb c))).squeeze S_ squeezes_S1_S_).sem
abbrev slotMk (c : Dev nD) : Memref sig .tc .vmem S32x32 .f32 :=
  (gM.slice (Rect.unit (s := S32x32x32) (k0_off2 c) S1x32x32.size (k0_off2_inb c)) (fun _ => rfl)).squeeze S32x32 squeezes_S1x32x32_S32x32
abbrev rowMk (c : Dev nD) (r : Fin 31) : Memref sig .tc .vmem S32x32 .f32 :=
  xM.slice (Rect.unit (s := S1024x32) (k0_off3 c (BitVec.ofNat 32 (1 + r.val))) S32x32.size (k0_off3_inb c r)) (fun _ => rfl)

/-! ## The steps -/

/-- One step after another. -/
def loop {A : Type} (f : A → Body F → Body F) : List A → Body F → Body F
  | [], p => p
  | a :: l, p => f a (loop f l p)

/-- The peers in the order the kernel takes them, and the senders. -/
abbrev peers : List (Fin 31) :=
  [0, 1, 2, 3, 4, 5, 6, 7, 8, 9, 10, 11, 12, 13, 14, 15, 16, 17, 18, 19, 20, 21, 22, 23, 24, 25, 26, 27, 28, 29, 30]
abbrev senders : List (Fin 32) :=
  [0, 1, 2, 3, 4, 5, 6, 7, 8, 9, 10, 11, 12, 13, 14, 15, 16, 17, 18, 19, 20, 21, 22, 23, 24, 25, 26, 27, 28, 29, 30, 31]

/-- Tell the `r`-th peer that this device has entered. -/
def signalStep (c : Dev nD) (r : Fin 31) (p : Body F) : Body F :=
  .op (.semSignal (peer c r, Proc.tc) barS (1#32 : BitVec 32).toInt) fun _ => p

/-- Send the `r`-th peer its rows. -/
def sendStep (c : Dev nD) (r : Fin 31) (p : Body F) : Body F :=
  .op (.enqueueDma (rowMk c r) (.remote (Dev.tc (peer c r)) (slotMk c) (.dma (sendSk r))) (.dma (recvSk c))
    (View.wordExact_bits rfl) ((View.wordExact_bits rfl).reshape _ _) ⟨⟨rfl, Or.inl rfl⟩, trivial⟩) fun _ => p

/-- Wait until the rows for the `r`-th peer have left. -/
def doneStep (c : Dev nD) (r : Fin 31) (p : Body F) : Body F :=
  .op (.waitDma2 (sendSk r) (slotMk c) (rowMk c r) ((View.wordExact_bits rfl).reshape _ _) (View.wordExact_bits rfl)) fun _ => p

/-- Whether the word `v` is not zero, and whether the device at place `v` is not `j`: the conditions of the kernel's waits. -/
abbrev isSet (v : BitVec 32) : BitVec 1 := Scalar.cmpi .ne v 0#32
abbrev differs (v : BitVec 32) (j : Fin 32) : BitVec 32 := Scalar.extui (Scalar.cmpi .ne v (BitVec.ofNat 32 j.val))
/-- The device's place on the mesh. -/
abbrev place (c : Dev nD) : BitVec 32 := Scalar.remsi (Scalar.divsi (Dev.word c) 1#32) 32#32

section Steps
variable {α : Type}

/-- If `b` holds, wait for sender `j`'s block. -/
def waitStep (b : BitVec 1) (j : Fin 32) (p : Prog (TpuEff nD τ sig (Elt F) Λ₀ .tc) α) : Prog (TpuEff nD τ sig (Elt F) Λ₀ .tc) α :=
  if h : b = 1#1 then
    .op (.waitDma2 (recvS j) (xM.slice (Rect.unit (s := S1024x32) ![0, 0] S32x32.size inb_S1024x32_S32x32_0_0) (fun _ => rfl)) (slotM j)
      (View.wordExact_bits rfl) ((View.wordExact_bits rfl).reshape _ _)) fun _ => p
  else p

/-- Load slot `j`. -/
def slotStep (j : Fin 32) (k : Vec F S1x32x32 .f32 → Prog (TpuEff nD τ sig (Elt F) Λ₀ .tc) α) : Prog (TpuEff nD τ sig (Elt F) Λ₀ .tc) α :=
  .op (.load gM (Rect.unit (s := S32x32x32) ![j.val, 0, 0] S1x32x32.size (inb_slot j)).toLoadRect (View.loadsAt_vmem h_S1x32x32)) k

/-- Load the rows of `w` that sender `j`'s block meets. -/
def rowStep (j : Fin 32) (k : Vec F S32x1024 .f32 → Prog (TpuEff nD τ sig (Elt F) Λ₀ .tc) α) : Prog (TpuEff nD τ sig (Elt F) Λ₀ .tc) α :=
  .op (.load wM (Rect.unit (s := S1024x1024) ![32 * j.val, 0] S32x1024.size (inb_wrow j)).toLoadRect (View.loadsAt_vmem h_S32x1024)) k

/-- Wait for sender `j`'s block, and load it and the rows of `w` it meets. -/
abbrev blockStep (b : BitVec 1) (j : Fin 32) (k : Vec F S1x32x32 .f32 → Vec F S32x1024 .f32 → Prog (TpuEff nD τ sig (Elt F) Λ₀ .tc) α) :
    Prog (TpuEff nD τ sig (Elt F) Λ₀ .tc) α :=
  waitStep b j (slotStep j fun v => rowStep j fun w => k v w)

variable {β : Type} (K : α → Prog (TpuEff nD τ sig (Elt F) Λ₀ .tc) β)

theorem waitStep_bind (b : BitVec 1) (j : Fin 32) (p : Prog (TpuEff nD τ sig (Elt F) Λ₀ .tc) α) :
    (waitStep b j p >>= K) = waitStep b j (p >>= K) := by
  unfold waitStep; split <;> rfl
theorem slotStep_bind (j : Fin 32) (k : Vec F S1x32x32 .f32 → Prog (TpuEff nD τ sig (Elt F) Λ₀ .tc) α) :
    (slotStep j k >>= K) = slotStep j fun v => k v >>= K := rfl
theorem rowStep_bind (j : Fin 32) (k : Vec F S32x1024 .f32 → Prog (TpuEff nD τ sig (Elt F) Λ₀ .tc) α) :
    (rowStep j k >>= K) = rowStep j fun v => k v >>= K := rfl
theorem ret_bind (a : α) : ((Prog.ret a : Prog (TpuEff nD τ sig (Elt F) Λ₀ .tc) α) >>= K) = K a := rfl

end Steps

/-- The blocks of the senders `l`, gathered in order. -/
def gather (c : Dev nD) : List (Fin 32) → (List (Vec F S1x32x32 .f32 × Vec F S32x1024 .f32) → Body F) → Body F
  | [], k => k []
  | j :: l, k => blockStep (isSet (differs (place c) j)) j fun v w => gather c l fun t => k ((v, w) :: t)

/-- One block's product. -/
def term (v : Vec F S1x32x32 .f32) (w : Vec F S32x1024 .f32) : FVec F S32x1024 .f32 :=
  matmul dot_S32x32_S32x1024_S32x1024_1_0_0_1_n_n none (shapeCast S32x32 v shapeCasts_S1x32x32_S32x32)
    (shapeCast S32x1024 w shapeCasts_S32x1024_S32x1024) (constant S32x1024 .f32 0x00000000#32)

/-- The products added up in the kernel's order. -/
def total : List (Vec F S1x32x32 .f32 × Vec F S32x1024 .f32) → FVec F S32x1024 .f32
  | [] => constant S32x1024 .f32 0x00000000#32
  | (v, w) :: l => l.foldl (fun a p => addf a (term p.1 p.2)) (term v w)

/-- Store the sum, then wait until every block has left. -/
def finish (c : Dev nD) (l : List (Vec F S1x32x32 .f32 × Vec F S32x1024 .f32)) : Body F :=
  .op (.load oM (Rect.unit (s := S32x1024) ![0, 0] S32x1024.size inb_S32x1024_S32x1024_0_0).toLoadRect (View.loadsAt_vmem h_S32x1024)) fun _ =>
  .op (.store oM (Rect.unit (s := S32x1024) ![0, 0] S32x1024.size inb_S32x1024_S32x1024_0_0) (total l) Finset.univ
    (View.stores_vmem_bits_univ h_S32x1024 rfl) (.inl rfl)) fun _ =>
  loop (doneStep c) peers (.ret ⟨⟩)

/-- Keep this device's own rows. -/
def ownStep (c : Dev nD) (p : Body F) : Body F :=
  .op (.load xM (Rect.unit (s := S1024x32) (k0_off4 c) S32x32.size (k0_off4_inb c)).toLoadRect (View.loadsAt_vmem h_S32x32)) fun v =>
  .op (.load gM (Rect.unit (s := S32x32x32) (k0_off5 c) S1x32x32.size (k0_off5_inb c)).toLoadRect (View.loadsAt_vmem h_S1x32x32)) fun _ =>
  .op (.store gM (Rect.unit (s := S32x32x32) (k0_off5 c) S1x32x32.size (k0_off5_inb c)) (k0_pay1 v) Finset.univ
    (View.stores_vmem_bits_univ h_S1x32x32 rfl) (.inl rfl)) fun _ => p

/-- The body on device `c`. -/
def bodyOn (c : Dev nD) : Body F :=
  loop (signalStep c) peers <|
  .op (.semWait barS (31#32 : BitVec 32).toInt) fun _ =>
  loop (sendStep c) peers <|
  ownStep c <|
  gather c senders (finish c)

/-! ## The parts that wait conditionally -/

set_option maxRecDepth 65536

theorem part18_eq (p q : BitVec 32) :
    k0_part18 (F := F) xM (Memref.isWhole_whole _) wM (Memref.isWhole_whole _) oM (Memref.isWhole_whole _) gM (Memref.isWhole_whole _)
      cc0_scratch1 cc0_scratch2 p q =
    (blockStep (isSet q) 0 fun v0 w0 =>
      blockStep (isSet (differs p 1)) 1 fun v1 w1 =>
      blockStep (isSet (differs p 2)) 2 fun v2 w2 =>
      .ret ⟨k0_pay2 v0 w0 v1 w1 v2 w2, differs p 3⟩) := by
  chain_rfl

theorem part19_eq (p : BitVec 32) (a : FVec F S32x1024 .f32) (q : BitVec 32) :
    k0_part19 (F := F) xM (Memref.isWhole_whole _) wM (Memref.isWhole_whole _) oM (Memref.isWhole_whole _) gM (Memref.isWhole_whole _)
      cc0_scratch1 cc0_scratch2 p a q =
    (blockStep (isSet q) 3 fun v3 w3 =>
      blockStep (isSet (differs p 4)) 4 fun v4 w4 =>
      blockStep (isSet (differs p 5)) 5 fun v5 w5 =>
      .ret (k0_pay3 a v3 w3 v4 w4 v5 w5)) := by
  chain_rfl

theorem part20_eq (p : BitVec 32) (a : FVec F S32x1024 .f32) :
    k0_part20 (F := F) xM (Memref.isWhole_whole _) wM (Memref.isWhole_whole _) oM (Memref.isWhole_whole _) gM (Memref.isWhole_whole _)
      cc0_scratch1 cc0_scratch2 p a =
    (blockStep (isSet (differs p 6)) 6 fun v6 w6 =>
      blockStep (isSet (differs p 7)) 7 fun v7 w7 =>
      blockStep (isSet (differs p 8)) 8 fun v8 w8 =>
      .ret ⟨k0_pay4 a v6 w6 v7 w7, k0_pay5 v8, k0_pay6 w8⟩) := by
  chain_rfl

theorem part21_eq (p : BitVec 32) (a : FVec F S32x1024 .f32) (v : FVec F S32x32 .f32) (w : FVec F S32x1024 .f32) :
    k0_part21 (F := F) xM (Memref.isWhole_whole _) wM (Memref.isWhole_whole _) oM (Memref.isWhole_whole _) gM (Memref.isWhole_whole _)
      cc0_scratch1 cc0_scratch2 p a v w =
    (blockStep (isSet (differs p 9)) 9 fun v9 w9 =>
      blockStep (isSet (differs p 10)) 10 fun v10 w10 =>
      waitStep (isSet (differs p 11)) 11 <|
      slotStep 11 fun v11 =>
      .ret ⟨k0_pay7 a v w v9 w9 v10 w10, k0_pay8 v11⟩) := by
  chain_rfl

theorem part22_eq (p : BitVec 32) (a : FVec F S32x1024 .f32) (v : FVec F S32x32 .f32) :
    k0_part22 (F := F) xM (Memref.isWhole_whole _) wM (Memref.isWhole_whole _) oM (Memref.isWhole_whole _) gM (Memref.isWhole_whole _)
      cc0_scratch1 cc0_scratch2 p a v =
    (rowStep 11 fun w11 =>
      blockStep (isSet (differs p 12)) 12 fun v12 w12 =>
      blockStep (isSet (differs p 13)) 13 fun v13 w13 =>
      waitStep (isSet (differs p 14)) 14 <|
      .ret (k0_pay9 a v w11 v12 w12 v13 w13)) := by
  chain_rfl

theorem part23_eq (p : BitVec 32) (a : FVec F S32x1024 .f32) :
    k0_part23 (F := F) xM (Memref.isWhole_whole _) wM (Memref.isWhole_whole _) oM (Memref.isWhole_whole _) gM (Memref.isWhole_whole _)
      cc0_scratch1 cc0_scratch2 p a =
    (slotStep 14 fun v14 =>
      rowStep 14 fun w14 =>
      blockStep (isSet (differs p 15)) 15 fun v15 w15 =>
      blockStep (isSet (differs p 16)) 16 fun v16 w16 =>
      waitStep (isSet (differs p 17)) 17 <|
      .ret (k0_pay10 a v14 w14 v15 w15 v16 w16)) := by
  chain_rfl

theorem part24_eq (p : BitVec 32) (a : FVec F S32x1024 .f32) :
    k0_part24 (F := F) xM (Memref.isWhole_whole _) wM (Memref.isWhole_whole _) oM (Memref.isWhole_whole _) gM (Memref.isWhole_whole _)
      cc0_scratch1 cc0_scratch2 p a =
    (slotStep 17 fun v17 =>
      rowStep 17 fun w17 =>
      blockStep (isSet (differs p 18)) 18 fun v18 w18 =>
      blockStep (isSet (differs p 19)) 19 fun v19 w19 =>
      .ret ⟨k0_pay11 a v17 w17 v18 w18 v19 w19, differs p 20⟩) := by
  chain_rfl

theorem part25_eq (p : BitVec 32) (a : FVec F S32x1024 .f32) (q : BitVec 32) :
    k0_part25 (F := F) xM (Memref.isWhole_whole _) wM (Memref.isWhole_whole _) oM (Memref.isWhole_whole _) gM (Memref.isWhole_whole _)
      cc0_scratch1 cc0_scratch2 p a q =
    (blockStep (isSet q) 20 fun v20 w20 =>
      blockStep (isSet (differs p 21)) 21 fun v21 w21 =>
      blockStep (isSet (differs p 22)) 22 fun v22 w22 =>
      .ret ⟨k0_pay12 a v20 w20 v21 w21 v22 w22, differs p 23⟩) := by
  chain_rfl

theorem part26_eq (p : BitVec 32) (a : FVec F S32x1024 .f32) (q : BitVec 32) :
    k0_part26 (F := F) xM (Memref.isWhole_whole _) wM (Memref.isWhole_whole _) oM (Memref.isWhole_whole _) gM (Memref.isWhole_whole _)
      cc0_scratch1 cc0_scratch2 p a q =
    (blockStep (isSet q) 23 fun v23 w23 =>
      blockStep (isSet (differs p 24)) 24 fun v24 w24 =>
      blockStep (isSet (differs p 25)) 25 fun v25 w25 =>
      .ret (k0_pay13 a v23 w23 v24 w24 v25 w25)) := by
  chain_rfl

theorem part27_eq (p : BitVec 32) (a : FVec F S32x1024 .f32) :
    k0_part27 (F := F) xM (Memref.isWhole_whole _) wM (Memref.isWhole_whole _) oM (Memref.isWhole_whole _) gM (Memref.isWhole_whole _)
      cc0_scratch1 cc0_scratch2 p a =
    (blockStep (isSet (differs p 26)) 26 fun v26 w26 =>
      blockStep (isSet (differs p 27)) 27 fun v27 w27 =>
      blockStep (isSet (differs p 28)) 28 fun v28 w28 =>
      .ret ⟨k0_pay14 a v26 w26 v27 w27, k0_pay15 v28, k0_pay16 w28⟩) := by
  chain_rfl

theorem part28_eq (p : BitVec 32) (a : FVec F S32x1024 .f32) (v : FVec F S32x32 .f32) (w : FVec F S32x1024 .f32) :
    k0_part28 (F := F) xM (Memref.isWhole_whole _) wM (Memref.isWhole_whole _) oM (Memref.isWhole_whole _) gM (Memref.isWhole_whole _)
      cc0_scratch1 cc0_scratch2 p a v w =
    (blockStep (isSet (differs p 29)) 29 fun v29 w29 =>
      blockStep (isSet (differs p 30)) 30 fun v30 w30 =>
      waitStep (isSet (differs p 31)) 31 <|
      slotStep 31 fun v31 =>
      .ret ⟨k0_pay17 a v w v29 w29 v30 w30, k0_pay18 v31⟩) := by
  chain_rfl

/-- The body is its loops. -/
theorem body_eq :
    cc0_body (F := F) xM (Memref.isWhole_whole _) wM (Memref.isWhole_whole _) oM (Memref.isWhole_whole _) gM (Memref.isWhole_whole _)
      cc0_scratch1 cc0_scratch2 = .op .deviceId bodyOn := by
  rw [cc0_body_eq_skeleton, cc0_body_skel, k0_part34_eq_skeleton, k0_part34_skel]
  simp only [part18_eq, part19_eq, part20_eq, part21_eq, part22_eq, part23_eq, part24_eq, part25_eq, part26_eq, part27_eq, part28_eq,
    waitStep_bind, slotStep_bind, rowStep_bind, ret_bind, bind_assoc]
  chain_rfl

end Cert.Exchange

end
-- ==== Proof.Proto.lean ====
/-
The protocol of the exchange. Device `c` has three families of semaphores: its barrier, which every other device raises once on
entry; the send semaphore of each copy it makes; the receive semaphore of each block that reaches it. The signal of device `p`
to device `c` hands `c` the slot of `p` that `c` will fill; the copy's landing hands it back, filled.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.BigSepL
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds (duties `Unit`) and the exchange's (a duty is named by the device that pays it) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers -/

theorem peer_val (c : Dev nD) (r : Fin 31) : (peer c r).val = (c.val + r.val + 1) % 32 := wordTo_eq c r

theorem peer_ne (c : Dev nD) (r : Fin 31) : peer c r ≠ c := fun h => by
  have h' := congrArg Fin.val h
  rw [peer_val] at h'
  have := c.isLt; have := r.isLt
  change c.val < 32 at *
  omega

/-- The turn at which device `c` serves device `p`. -/
def turn (c p : Dev nD) (h : p ≠ c) : Fin 31 :=
  ⟨(p.val + 31 - c.val) % 32, by
    have := c.isLt; have := p.isLt; have h' : p.val ≠ c.val := fun e => h (Fin.ext e)
    change c.val < 32 at *; change p.val < 32 at *; omega⟩

theorem peer_turn (c p : Dev nD) (h : p ≠ c) : peer c (turn c p h) = p := Fin.ext (by
  rw [peer_val]
  have := c.isLt; have := p.isLt; have h' : p.val ≠ c.val := fun e => h (Fin.ext e)
  change c.val < 32 at *; change p.val < 32 at *
  show (c.val + (p.val + 31 - c.val) % 32 + 1) % 32 = p.val
  omega)

theorem peer_injective (c : Dev nD) : Function.Injective (peer c) := fun r r' h => Fin.ext (by
  have h' := congrArg Fin.val h
  rw [peer_val, peer_val] at h'
  have := c.isLt; have := r.isLt; have := r'.isLt
  change c.val < 32 at *
  omega)

/-- The device that serves `c` at turn `r`. -/
def back (c : Dev nD) (r : Fin 31) : Dev nD := ⟨(c.val + 31 - r.val) % 32, Nat.mod_lt _ (by decide)⟩

theorem peer_eq_iff (d c : Dev nD) (r : Fin 31) : c = peer d r ↔ d = back c r := by
  have := c.isLt; have := d.isLt; have := r.isLt
  change c.val < 32 at *; change d.val < 32 at *
  rw [Fin.ext_iff, Fin.ext_iff, peer_val]
  show c.val = (d.val + r.val + 1) % 32 ↔ d.val = (c.val + 31 - r.val) % 32
  omega

/-- Every device but `c` is one of its peers, once. -/
theorem others_eq (c : Dev nD) : Finset.univ.erase c = Finset.univ.map ⟨peer c, peer_injective c⟩ := by
  ext p
  rw [Finset.mem_erase, Finset.mem_map]
  exact ⟨fun h => ⟨turn c p h.1, Finset.mem_univ _, peer_turn c p h.1⟩, fun ⟨r, _, h⟩ => ⟨h ▸ peer_ne c r, Finset.mem_univ _⟩⟩

/-- The send semaphore of turn `r`. -/
abbrev nxtS (r : Fin 31) : Fin 32 := ⟨1 + r.val, by omega⟩

/-- The device the copy on send semaphore `j` goes to. -/
def dest (c : Dev nD) (j : Fin 32) : Dev nD := ⟨(c.val + j.val) % 32, Nat.mod_lt _ (by decide)⟩
theorem dest_nxtS (c : Dev nD) (r : Fin 31) : dest c (nxtS r) = peer c r := Fin.ext (by
  rw [peer_val]; show (c.val + (1 + r.val)) % 32 = _; congr 1; omega)

/-! ## The cells -/

/-- The semaphores of the exchange: the barrier, the sends, the receives. -/
abbrev Kd : Type := Unit ⊕ (Fin 32 ⊕ Fin 32)
abbrev kBar : Kd := .inl ()
abbrev kSend (j : Fin 32) : Kd := .inr (.inl j)
abbrev kRecv (j : Fin 32) : Kd := .inr (.inr j)

abbrev osem : Fin 32 ⊕ Fin 32 → SemLoc sig := fun | .inl j => .dma (sendS j) | .inr j => .dma (recvS j)
abbrev csem : Kd → SemLoc sig := fun | .inl _ => .reg barS | .inr k => osem k
abbrev kcell (ck : Dev nD × Kd) : GSem nD τ sig := ((ck.1 : Thread nD τ), csem ck.2)

abbrev barCell (c : Dev nD) : GSem nD τ sig := kcell (c, kBar)
abbrev sendCell (c : Dev nD) (j : Fin 32) : GSem nD τ sig := kcell (c, kSend j)
abbrev recvCell (c : Dev nD) (j : Fin 32) : GSem nD τ sig := kcell (c, kRecv j)

/-- What a semaphore is for; `none` for the staging semaphores. -/
def kind : SemLoc sig → Option Kd
  | .reg _ => some kBar
  | .dma q => if q.val < 3 then none else if q.val < 35 then some (kSend ⟨(q.val - 3) % 32, Nat.mod_lt _ (by decide)⟩)
      else some (kRecv ⟨(q.val - 35) % 32, Nat.mod_lt _ (by decide)⟩)

theorem kind_csem : ∀ k : Kd, kind (csem k) = some k := by decide +kernel

theorem csem_injective : Function.Injective csem := fun k k' h => by
  have := congrArg kind h
  rw [kind_csem, kind_csem] at this
  exact Option.some.inj this

theorem kcell_injective : Function.Injective (kcell : Dev nD × Kd → GSem nD τ sig) := fun a b h => by
  have h1 : a.1 = b.1 := congrArg (fun g : GSem nD τ sig => g.1.1) h
  have h2 : csem a.2 = csem b.2 := congrArg Prod.snd h
  exact Prod.ext h1 (csem_injective h2)

theorem kcell_inj {c c' : Dev nD} {k k' : Kd} : kcell (c, k) = kcell (c', k') ↔ c = c' ∧ k = k' :=
  ⟨fun h => by have := kcell_injective h; exact ⟨congrArg Prod.fst this, congrArg Prod.snd this⟩, fun h => by rw [h.1, h.2]⟩

/-- The credit of one block. -/
abbrev N : ℕ := (slotM 0).view.dmaCredit
theorem N_pos : 0 < N := View.dmaCredit_pos _ (by decide)

/-! ## Contents -/

variable (X : (c : Dev nD) → (cc0_stg0_0 : Ref sig .tc).ty.Contents (Elt F))

/-- The block that reaches device `c` from device `j`: rows `32 c …` of `j`'s columns. -/
def blk (c j : Dev nD) : Vec F S32x32 .f32 := (rowM c).view.read (Elt F) (X j)

/-- The same, as the slot holds it. -/
def slotV (c j : Dev nD) : Vec F S1x32x32 .f32 := shapeCast S1x32x32 (blk X c j) shapeCasts_S32x32_S1x32x32

abbrev slotR (j : Fin 32) : Rect S32x32x32 := Rect.unit (s := S32x32x32) ![j.val, 0, 0] S1x32x32.size (inb_slot j)

/-- Slot `j` of device `c`, held. -/
def slotPts (c : Dev nD) (j : Fin 32) (f : Buf (Elt F) ((slotM j).view.loc (c : Thread nD τ))) : sProp 𝕄 :=
  (slotM j).view.loc (c : Thread nD τ) ↦[(slotM j).view.set]{fullShare} f
/-- The same with what it holds left open. -/
def slotAny (c : Dev nD) (j : Fin 32) : sProp 𝕄 := iprop(∃ f, slotPts c j f)
/-- Slot `j` of device `c`, holding the block from device `j`. -/
def held (c : Dev nD) (j : Fin 32) : sProp 𝕄 :=
  iprop(∃ f : Buf (Elt F) ((slotM j).view.loc (c : Thread nD τ)), ⌜gM.view.readAt (Elt F) (slotR j).toLoadRect f = slotV X c j⌝ ∗ slotPts c j f)
/-- Rows `32 j …` of the staged columns of device `c`, held. -/
def rowPts (c : Dev nD) (j : Fin 32) : sProp 𝕄 :=
  (rowM j).view.loc (c : Thread nD τ) ↦[(rowM j).view.set]{fullShare} X c

instance slotPts_storable (c : Dev nD) (j : Fin 32) (f) : BI.Storable (upEmb : UEmb _ 𝕄) (slotPts (F := F) c j f) := by unfold slotPts; infer_instance
instance slotAny_storable (c : Dev nD) (j : Fin 32) : BI.Storable (upEmb : UEmb _ 𝕄) (slotAny (F := F) c j) := by unfold slotAny; infer_instance
instance held_storable (c : Dev nD) (j : Fin 32) : BI.Storable (upEmb : UEmb _ 𝕄) (held X c j) := by unfold held; infer_instance
instance rowPts_storable (c : Dev nD) (j : Fin 32) : BI.Storable (upEmb : UEmb _ 𝕄) (rowPts X c j) := by unfold rowPts; infer_instance

/-- A load of slot `j` reads it as the copies write it. -/
theorem readAt_slot (j : Fin 32) (f : (cc0_scratch0 : Ref sig .tc).ty.Contents (Elt F)) :
    gM.view.readAt (Elt F) (slotR j).toLoadRect f
      = (shapeCast S1x32x32 ((slotM j).view.read (Elt F) f : Vec F S32x32 .f32) shapeCasts_S32x32_S1x32x32 : Vec F S1x32x32 .f32) := by
  have h : (slotM j).view.read (Elt F) f = shapeCast S32x32 (gM.view.readAt (Elt F) (slotR j).toLoadRect f : Vec F S1x32x32 .f32) shapeCasts_S1x32x32_S32x32 :=
    funext fun x => rfl
  rw [h]
  exact (shapeCast_shapeCast _ _ _).symm

/-- A slot written with the block of device `j` holds it. -/
theorem read_landed (c j : Dev nD) (f : (cc0_scratch0 : Ref sig .tc).ty.Contents (Elt F)) :
    gM.view.readAt (Elt F) (slotR j).toLoadRect ((slotM j).view.write (Elt F) f (blk X c j) Finset.univ) = slotV X c j := by
  rw [readAt_slot, View.read_write_univ]; rfl

/-! ## The schedule: one round -/

/-- Who pays a semaphore. -/
def payers (c : Dev nD) : Option Kd → Finset (Dev nD)
  | some (.inl _) => Finset.univ.erase c
  | some (.inr (.inl j)) => if j = 0 then ∅ else {c}
  | some (.inr (.inr j)) => if j = c then ∅ else {j}
  | none => ∅

/-- What a payment hands over. -/
def paid (c : Dev nD) (d : Dev nD) : Option Kd → sProp 𝕄
  | some (.inl _) => slotAny d c
  | some (.inr (.inl j)) => rowPts X c (dest c j)
  | some (.inr (.inr j)) => held X c j
  | none => iprop(emp)

def units : Option Kd → ℕ
  | some (.inl _) => 1
  | _ => N

instance paid_storable (c d : Dev nD) (k : Option Kd) : BI.Storable (upEmb : UEmb _ 𝕄) (paid X c d k) := by
  unfold paid
  split <;> infer_instance

def rd : Rounds.Schedule (GSem nD τ sig) (Dev nD) 𝕄 where
  duties g r := if r = 0 ∧ g.1.2 = .tc then payers g.1.1 (kind g.2) else ∅
  unitless _ := False
  amount g _ _ := units (kind g.2)
  payload g _ d := paid X g.1.1 d (kind g.2)
  amount_pos g _ _ _ := by
    unfold units
    split
    · exact Nat.one_pos
    · exact N_pos

instance rd_payload_storable (g : GSem nD τ sig) (r : ℕ) (d : Dev nD) :
    BI.Storable (upEmb : UEmb _ 𝕄) ((rd (F := F) X).payload g r d) := paid_storable X g.1.1 d (kind g.2)

theorem duties_cell (c : Dev nD) (k : Kd) : (rd (F := F) X).duties (kcell (c, k)) 0 = payers c (some k) := by
  show (if 0 = 0 ∧ ((c : Thread nD τ)).2 = .tc then payers c (kind (csem k)) else ∅) = _
  rw [if_pos ⟨rfl, rfl⟩, kind_csem]
theorem duties_later (g : GSem nD τ sig) : ∀ r, 1 ≤ r → (rd (F := F) X).duties g r = ∅ :=
  fun r hr => by dsimp only [rd]; exact if_neg fun h => by omega
theorem amount_cell (c : Dev nD) (k : Kd) (d : Dev nD) : (rd (F := F) X).amount (kcell (c, k)) 0 d = units (some k) := by
  show units (kind (csem k)) = _; rw [kind_csem]
theorem payload_cell (c : Dev nD) (k : Kd) (d : Dev nD) : (rd (F := F) X).payload (kcell (c, k)) 0 d = paid X c d (some k) := by
  show paid X c d (kind (csem k)) = _; rw [kind_csem]

theorem duties_bar (c : Dev nD) : (rd (F := F) X).duties (barCell c) 0 = Finset.univ.erase c := duties_cell X c kBar
theorem duties_send (c : Dev nD) (r : Fin 31) : (rd (F := F) X).duties (sendCell c (nxtS r)) 0 = {c} := by
  rw [duties_cell]
  exact if_neg fun h => absurd (show 1 + r.val = 0 from congrArg Fin.val h) (by omega)
theorem duties_recv (c j : Dev nD) (h : j ≠ c) : (rd (F := F) X).duties (recvCell c j) 0 = {j} := by
  rw [duties_cell]; exact if_neg h
/-- The first send semaphore and a device's own receive semaphore are never raised. -/
theorem duties_send_zero (c : Dev nD) : ∀ r, 0 ≤ r → (rd (F := F) X).duties (sendCell c 0) r = ∅ := fun r _ => by
  rcases Nat.eq_zero_or_pos r with rfl | h
  · rw [duties_cell]; rfl
  · exact duties_later X _ r h
theorem duties_recv_self (c : Dev nD) : ∀ r, 0 ≤ r → (rd (F := F) X).duties (recvCell c c) r = ∅ := fun r _ => by
  rcases Nat.eq_zero_or_pos r with rfl | h
  · rw [duties_cell]; exact if_pos rfl
  · exact duties_later X _ r h

theorem expect_bar (c : Dev nD) : (rd (F := F) X).expect (barCell c) 0 = 31 := by
  unfold Schedule.expect Schedule.amountOf
  rw [duties_bar, Finset.sum_congr rfl fun d _ => amount_cell X c kBar d, Finset.sum_const, Finset.card_erase_of_mem (Finset.mem_univ c), Finset.card_univ]
  rfl
theorem expect_send (c : Dev nD) (r : Fin 31) : (rd (F := F) X).expect (sendCell c (nxtS r)) 0 = N := by
  unfold Schedule.expect Schedule.amountOf; rw [duties_send, Finset.sum_singleton, amount_cell]; rfl
theorem expect_recv (c j : Dev nD) (h : j ≠ c) : (rd (F := F) X).expect (recvCell c j) 0 = N := by
  unfold Schedule.expect Schedule.amountOf; rw [duties_recv X c j h, Finset.sum_singleton, amount_cell]; rfl

/-- The whole round of a barrier: the slot of every peer that this device fills. -/
theorem rest_bar (c : Dev nD) : bigSep ((rd (F := F) X).duties (barCell c) 0 \ ∅) (fun d => (rd (F := F) X).payload (barCell c) 0 d)
    = bigSep Finset.univ fun r : Fin 31 => slotAny (F := F) (peer c r) c := by
  rw [Finset.sdiff_empty, duties_bar, others_eq, bigSep_map]
  exact bigSep_congr fun r _ => payload_cell X c kBar (peer c r)
theorem rest_send (c : Dev nD) (r : Fin 31) :
    bigSep ((rd (F := F) X).duties (sendCell c (nxtS r)) 0 \ ∅) (fun d => (rd (F := F) X).payload (sendCell c (nxtS r)) 0 d) = rowPts X c (peer c r) := by
  rw [Finset.sdiff_empty, duties_send, bigSep_singleton, payload_cell]
  show rowPts X c (dest c (nxtS r)) = _
  rw [dest_nxtS]
theorem rest_recv (c j : Dev nD) (h : j ≠ c) :
    bigSep ((rd (F := F) X).duties (recvCell c j) 0 \ ∅) (fun d => (rd (F := F) X).payload (recvCell c j) 0 d) = held X c j := by
  rw [Finset.sdiff_empty, duties_recv X c j h, bigSep_singleton, payload_cell]; rfl

/-! ## What a device owes, and the levels -/

/-- The credits of the copies still to be made, and before them the signals still to be sent. -/
def owedS (c : Dev nD) : List (Fin 31) → CellTallies nD τ sig Unit
  | [] => 0
  | r :: l => owedS c l + tallyAt (recvCell (peer c r) c) () N
def owedB (c : Dev nD) : List (Fin 31) → CellTallies nD τ sig Unit
  | [] => owedS c peers
  | r :: l => owedB c l + tallyAt (barCell (peer c r)) () 1
def O₀ (c : Dev nD) : CellTallies nD τ sig Unit := owedB c peers

def L (g : GSem nD τ sig) : Finset Unit := if g.1.2 = .tc then {()} else ∅
/-- A wait on a barrier is below the copies' landings; the staging and send semaphores are below both. -/
def lvK : Option Kd → ℕ
  | some (.inl _) => 1
  | some (.inr (.inr _)) => 2
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (kcell (c, k)) u = lvK (some k) := by
  show lvK (kind (csem k)) = _; rw [kind_csem]

theorem owedS_pos {c : Dev nD} {g : GSem nD τ sig} {u : Unit} : ∀ {l : List (Fin 31)}, 0 < owedS c l g u → ∃ p, g = recvCell p c
  | [], h => absurd h (Nat.lt_irrefl 0)
  | r :: l, h => by
    by_cases hg : g = recvCell (peer c r) c
    · exact ⟨_, hg⟩
    · refine owedS_pos (l := l) (u := u) ?_
      rw [owedS, Pi.add_apply, Finsupp.add_apply, tallyAt_apply, if_neg fun h' => hg h'.1] at h
      exact h
theorem owedB_pos {c : Dev nD} {g : GSem nD τ sig} {u : Unit} : ∀ {l : List (Fin 31)}, 0 < owedB c l g u → (∃ p, g = recvCell p c) ∨ ∃ p, g = barCell p
  | [], h => .inl (owedS_pos h)
  | r :: l, h => by
    by_cases hg : g = barCell (peer c r)
    · exact .inr ⟨_, hg⟩
    · refine owedB_pos (l := l) (u := u) ?_
      rw [owedB, Pi.add_apply, Finsupp.add_apply, tallyAt_apply, if_neg fun h' => hg h'.1] at h
      exact h

theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨p, rfl⟩ | ⟨p, rfl⟩ <;> exact Finset.mem_singleton_self _)
      (fun p hp => by rw [Finset.mem_singleton.mp hp]; show lvK (kind (.dma q)) ≤ 0; rw [hq]; exact Nat.le_refl 0)
      (fun g u hg => by
        rcases owedB_pos hg with ⟨p, rfl⟩ | ⟨p, rfl⟩ <;> rw [lv_cell] <;> simp [lvK])
  · rw [MayWait_zero]; iintro -; iempintro

/-- At its barrier a device owes the landings of its copies only. -/
theorem mayWait_bar (c : Dev nD) (l : List (Fin 31)) :
    (levAts L lv : sProp 𝕄) ⊢ MayWait (c : Thread nD τ) (.reg barS) () (owedS c l) :=
  MayOwe.of_cut (L := L) (lev := lv) 1 (fun p hp => by rw [Finset.mem_singleton.mp hp, L_tc]; exact Finset.mem_singleton_self _)
    (fun g u hg => by obtain ⟨p, rfl⟩ := owedS_pos hg; exact Finset.mem_singleton_self _)
    (fun p hp => by rw [Finset.mem_singleton.mp hp]; exact Nat.le_refl 1)
    (fun g u hg => by obtain ⟨p, rfl⟩ := owedS_pos hg; rw [lv_cell]; simp [lvK])

/-- The cells' invariants, and that every cell has reached its round. -/
def records (K : Dev nD × Kd → ℕ) : sProp 𝕄 :=
  iprop((bigSep Finset.univ fun ck : Dev nD × Kd => cellInv ER (rd X) (K ck) (kcell ck))
    ∗ bigSep Finset.univ fun ck : Dev nD × Kd => reached ER (kcell ck) 0)

instance records_persistent (K : Dev nD × Kd → ℕ) : BI.Persistent (records X K) := by unfold records; infer_instance

theorem inv_at (K : Dev nD × Kd → ℕ) (c : Dev nD) (k : Kd) : records X K ⊢ cellInv ER (rd X) (K (c, k)) (kcell (c, k)) := by
  have h : (bigSep Finset.univ fun ck : Dev nD × Kd => (cellInv ER (rd X) (K ck) (kcell ck) : sProp 𝕄)) ⊢ cellInv ER (rd X) (K (c, k)) (kcell (c, k)) :=
    bigSep_elim (Finset.mem_univ (c, k))
  unfold records
  iintro ⟨H, -⟩
  iapply h
  iexact H
theorem reached_at (K : Dev nD × Kd → ℕ) (c : Dev nD) (k : Kd) : records X K ⊢ (reached ER (kcell (c, k)) 0 : sProp 𝕄) := by
  have h : (bigSep Finset.univ fun ck : Dev nD × Kd => (reached ER (kcell ck) 0 : sProp 𝕄)) ⊢ reached ER (kcell (c, k)) 0 :=
    bigSep_elim (Finset.mem_univ (c, k))
  unfold records
  iintro ⟨-, H⟩
  iapply h
  iexact H

end Cert.Exchange

end
-- ==== Proof.Steps.lean ====
/-
The steps of the exchange, one rule each: a signal, a copy, a wait with its loads, a wait for a copy to have left.
-/
module

public import proofs.«01_k».proof.Proof.Proto

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program `p` on device `c` meets `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W : Waits sig Unit, owes (c : Thread nD τ) O W)

/-! ## Loops -/

/-- A loop meets what its steps meet one by one. -/
theorem wp_loop (c : Dev nD) {A : Type} (f : A → Body F → Body F) (Pre Post : A → sProp 𝕄) (R : List A → sProp 𝕄) (Q : PUnit → sProp 𝕄)
    (step : ∀ a l p, iprop(Pre a ∗ R (a :: l)) ⊢ iprop(((Post a ∗ R l) -∗ WP c p Q) -∗ WP c (f a p) Q)) :
    ∀ l p, iprop(bigSepL l Pre ∗ R l) ⊢ iprop(((bigSepL l Post ∗ R []) -∗ WP c p Q) -∗ WP c (loop f l p) Q)
  | [], p => by
    iintro ⟨H, HR⟩ Hk
    iapply Hk
    isplitl [H]; · iexact H
    iexact HR
  | a :: l, p => by
    rw [bigSepL_cons', bigSepL_cons']
    iintro ⟨⟨Ha, Hl⟩, HR⟩ Hk
    iapply (step a l (loop f l p)) $$ [Ha HR]
    · isplitl [Ha] <;> iassumption
    iintro ⟨HP, HR⟩
    iapply (wp_loop c f Pre Post R Q step l p) $$ [Hl HR]
    · isplitl [Hl] <;> iassumption
    iintro ⟨HL, HR⟩
    iapply Hk
    isplitl [HP HL]
    · isplitl [HP] <;> iassumption
    iexact HR

/-! ## Addresses -/

theorem slice_congr {κ : Kind} {sp : Space} {s : Shape} {e : EltTy} (m : Memref sig κ sp s e) {size : Fin s.rank → ℕ} {o o' : Fin s.rank → ℕ} (h : o = o')
    (i : ∀ a, o a + size a ≤ s.size a) (i' : ∀ a, o' a + size a ≤ s.size a) :
    m.slice (Rect.unit (s := s) o size i) (fun _ => rfl) = m.slice (Rect.unit (s := s) o' size i') (fun _ => rfl) := by subst h; rfl

theorem rowMk_eq (c : Dev nD) (r : Fin 31) : rowMk c r = rowM (peer c r) :=
  slice_congr xM (by rw [k0_off3_eq, peer_val, Nat.add_right_comm]) _ _
theorem slotMk_eq (c : Dev nD) : slotMk c = slotM c :=
  congrArg (fun m : Memref sig .tc .vmem S1x32x32 .f32 => m.squeeze S32x32 squeezes_S1x32x32_S32x32) (slice_congr gM (k0_off2_eq c) _ _)
theorem recvSk_eq (c : Dev nD) : recvSk c = recvS c := by
  have h {o o' : Fin 1 → ℕ} (e : o = o') (i : ∀ a, o a + S1.size a ≤ S32.size a) (i' : ∀ a, o' a + S1.size a ≤ S32.size a) :
      ((cc0_scratch2.slice (Rect.unit (s := S32) o S1.size i)).squeeze S_ squeezes_S1_S_).sem
        = ((cc0_scratch2.slice (Rect.unit (s := S32) o' S1.size i')).squeeze S_ squeezes_S1_S_).sem := by subst e; rfl
  exact h (k0_off1_eq c) _ _

variable (X : (c : Dev nD) → (cc0_stg0_0 : Ref sig .tc).ty.Contents (Elt F)) (K : Dev nD × Kd → ℕ) (c : Dev nD)

/-! ## A signal -/

theorem step_signal (Q : PUnit → sProp 𝕄) (r : Fin 31) (l : List (Fin 31)) (p : Body F) :
    iprop((dutyTok ER (barCell (peer c r)) 0 c ∗ slotAny c (peer c r)) ∗ records X K ∗ owing c (owedB c (r :: l)))
      ⊢ iprop(((emp ∗ records X K ∗ owing c (owedB c l)) -∗ WP c p Q) -∗ WP c (signalStep c r p) Q) := by
  unfold signalStep owing
  iintro ⟨⟨Htok, Hs⟩, #HR, %W, HO⟩ Hk
  iapply (Rounds.wp_signal 𝒱₀ ER (rd X) (c : Thread nD τ) none (dst := (peer c r : Thread nD τ)) (sem := barS) (κ := K (peer c r, kBar)) (r := 0)
      (d := c) (by rw [duties_bar]; exact Finset.mem_erase.mpr ⟨(peer_ne c r).symm, Finset.mem_univ _⟩)
      ((amount_cell X (peer c r) kBar c).trans (by decide)) () (owedB c l) rfl) $$ [HO Htok Hs]
  · isplitr; · iapply (inv_at X K (peer c r) kBar); iexact HR
    isplitl [HO]; · iexact HO
    isplitl [Htok]; · iexact Htok
    isplitl [Hs]; · rw [show (rd X).payload ((peer c r : Thread nD τ), SemLoc.reg barS) 0 c = slotAny c (peer c r) from payload_cell X (peer c r) kBar c]; iexact Hs
    iapply (reached_at X K (peer c r) kBar); iexact HR
  iintro HO
  iapply Hk
  isplitr; · iempintro
  isplitr; · iexact HR
  iexists W; iexact HO

/-! ## The barrier -/

theorem wp_barrier (Q : PUnit → sProp 𝕄) (p : Body F) :
    iprop(records X K ∗ levAts L lv ∗ cred (tallyAt (barCell c) () 31) ∗ atPos ER (barCell c) 0 ∅ 0 ∗ owing c (owedS c peers))
      ⊢ iprop((((bigSep Finset.univ fun r : Fin 31 => slotAny (F := F) (peer c r) c) ∗ semVal (barCell c) 0 ∗ owing c (owedS c peers)) -∗ WP c p Q)
        -∗ WP c (.op (.semWait barS (31#32 : BitVec 32).toInt) fun _ => p) Q) := by
  unfold owing
  iintro ⟨#HR, #Hlev, Hc, Hat, %W, HO⟩ Hk
  ihave #HI := (inv_at X K c kBar) $$ HR
  iapply (Rounds.wp_wait_rest_token 𝒱₀ ER (rd X) (c : Thread nD τ) none (κ := K (c, kBar))
      (wpE_semWait_eq 𝒱₀ (c : Thread nD τ) none Set.univ) (Set.mem_univ _) () (O := owedS c peers) (W := W) (R := 0) (m := 0) (T := ∅)
      ((Nat.zero_add _).trans (expect_bar X c).symm)) $$ [Hc HO Hat]
  · isplitr; · iexact HI
    isplitl [Hc]; · iexact Hc
    isplitl [HO]; · iexact HO
    isplitr; · iapply (mayWait_bar c peers); iexact Hlev
    iexact Hat
  iintro ⟨HO, Hat, -, Hpay⟩
  ihave Hs := (Entails.of_eq (rest_bar X c)) $$ Hpay
  imod (Rounds.cell_close ER (rd X) (Set.mem_univ (K (c, kBar))) (fun h => h) (R := 0 + 1) (duties_later X (barCell c))) $$ [Hat] with Hz
  · isplitr; · iexact HI
    iexact Hat
  iapply Hk
  isplitl [Hs]; · iexact Hs
  isplitl [Hz]; · iexact Hz
  iexists _; iexact HO

/-! ## A copy -/

theorem wp_copy (r : Fin 31) {src dst : Memref sig .tc .vmem S32x32 .f32} (hs : src = rowM (peer c r)) (hd : dst = slotM c)
    {qs qr : DmaSem sig} (hqs : qs = sendS (nxtS r)) (hqr : qr = recvS c)
    {hsc : (dst : Memref sig (Dev.tc (peer c r) : Thread nD τ).2.kind .vmem S32x32 .f32).view.ref.isScScratch = false}
    {hsrc : src.view.WordExact} {hdst : dst.view.WordExact}
    {hsem : DmaTarget.Typed .vmem (.dma qr) (.remote (Dev.tc (peer c r) : Thread nD τ) dst (.dma qs) hsc)}
    {Q : PUnit → sProp 𝕄} {k : PUnit → Body F} (l : List (Fin 31)) (f) (W : Waits sig Unit) :
    iprop(records X K ∗ rowPts X c (peer c r) ∗ slotPts (peer c r) c f ∗ owes (c : Thread nD τ) (owedS c (r :: l)) W
        ∗ dutyTok ER (sendCell c (nxtS r)) 0 c ∗ dutyTok ER (recvCell (peer c r) c) 0 c)
      ⊢ iprop(((cred (tallyAt (sendCell c (nxtS r)) () N) ∗ owes (c : Thread nD τ) (owedS c l) W) -∗ WP c (k ⟨⟩) Q)
        -∗ WP c (.op (.enqueueDma src (.remote (Dev.tc (peer c r) : Thread nD τ) dst (.dma qs) hsc) (.dma qr) hsrc hdst hsem) k) Q) := by
  subst hs; subst hd; subst hqs; subst hqr
  iintro ⟨#HR, Hx, Hs, HO, Ht1, Ht2⟩ Hk
  iapply (Rounds.wp_send_pointsTo 𝒱₀ ER (rd X) (c : Thread nD τ) none (κ₁ := K (c, kSend (nxtS r))) (κ₂ := K (peer c r, kRecv c))
      (r₁ := 0) (r₂ := 0) (d₁ := c) (d₂ := c) (fs := X c) (fd := f) (q := fullShare)
      (by rw [show (rd X).duties ((c : Thread nD τ), SemLoc.dma (sendS (nxtS r))) 0 = {c} from duties_send X c r]; exact Finset.mem_singleton_self _)
      (by rw [show (rd X).duties ((peer c r : Thread nD τ), SemLoc.dma (recvS c)) 0 = {c} from duties_recv X (peer c r) c (peer_ne c r).symm]
          exact Finset.mem_singleton_self _)
      () () N rfl (amount_cell X c (kSend (nxtS r)) c) (amount_cell X (peer c r) (kRecv c) c) (owedS c l) rfl (W := W)
      (by rw [show (rd X).payload ((c : Thread nD τ), SemLoc.dma (sendS (nxtS r))) 0 c = rowPts X c (dest c (nxtS r)) from payload_cell X c (kSend (nxtS r)) c,
            dest_nxtS]
          exact BI.Entails.refl _)
      (by rw [show (rd X).payload ((peer c r : Thread nD τ), SemLoc.dma (recvS c)) 0 c = held X (peer c r) c from payload_cell X (peer c r) (kRecv c) c]
          unfold held slotPts
          iintro H
          iexists _
          isplitr
          rotate_left
          · iexact H
          ipureintro
          exact read_landed X (peer c r) c f)) $$ [Hx Hs HO Ht1 Ht2]
  · isplitr; · iapply (inv_at X K c (kSend (nxtS r))); iexact HR
    isplitr; · iapply (inv_at X K (peer c r) (kRecv c)); iexact HR
    isplitl [Hx]; · unfold rowPts; iexact Hx
    isplitl [Hs]; · unfold slotPts; iexact Hs
    isplitl [HO]; · iexact HO
    isplitl [Ht1]; · iexact Ht1
    isplitr; · iapply (reached_at X K c (kSend (nxtS r))); iexact HR
    isplitl [Ht2]; · iexact Ht2
    iapply (reached_at X K (peer c r) (kRecv c)); iexact HR
  iexact Hk

theorem step_send (Q : PUnit → sProp 𝕄) (r : Fin 31) (l : List (Fin 31)) (p : Body F) :
    iprop((rowPts X c (peer c r) ∗ slotAny (F := F) (peer c r) c ∗ dutyTok ER (sendCell c (nxtS r)) 0 c ∗ dutyTok ER (recvCell (peer c r) c) 0 c)
        ∗ records X K ∗ owing c (owedS c (r :: l)))
      ⊢ iprop(((cred (tallyAt (sendCell c (nxtS r)) () N) ∗ records X K ∗ owing c (owedS c l)) -∗ WP c p Q) -∗ WP c (sendStep c r p) Q) := by
  unfold sendStep owing slotAny
  iintro ⟨⟨Hx, ⟨%f, Hs⟩, Ht1, Ht2⟩, #HR, %W, HO⟩ Hk
  iapply (wp_copy X K c r (rowMk_eq c r) (slotMk_eq c) (qs := sendSk r) rfl (recvSk_eq c) l f W) $$ [Hx Hs Ht1 Ht2 HO]
  · isplitr; · iexact HR
    isplitl [Hx]; · iexact Hx
    isplitl [Hs]; · iexact Hs
    isplitl [HO]; · iexact HO
    isplitl [Ht1] <;> iassumption
  iintro ⟨Hc, HO⟩
  iapply Hk
  isplitl [Hc]; · iexact Hc
  isplitr; · iexact HR
  iexists W; iexact HO

/-! ## A copy that has left -/

theorem row_credit (c : Dev nD) (r : Fin 31) : (rowMk c r).view.dmaCredit = N := rfl

theorem step_done (Q : PUnit → sProp 𝕄) (r : Fin 31) (l : List (Fin 31)) (p : Body F) :
    iprop((cred (tallyAt (sendCell c (nxtS r)) () N) ∗ atPos ER (sendCell c (nxtS r)) 0 ∅ 0) ∗ records X K ∗ owing c 0)
      ⊢ iprop((((rowPts X c (peer c r) ∗ semVal (sendCell c (nxtS r)) 0) ∗ records X K ∗ owing c 0) -∗ WP c p Q) -∗ WP c (doneStep c r p) Q) := by
  unfold doneStep owing
  iintro ⟨⟨Hc, Hat⟩, #HR, %W, HO⟩ Hk
  ihave #HI := (inv_at X K c (kSend (nxtS r))) $$ HR
  iapply (Rounds.wp_wait_rest_token 𝒱₀ ER (rd X) (c : Thread nD τ) none (κ := K (c, kSend (nxtS r)))
      (wpE_waitDma2_eq 𝒱₀ (c : Thread nD τ) none Set.univ) (Set.mem_univ _) () (O := 0) (W := W) (R := 0) (m := 0) (T := ∅)
      (k' := (rowMk c r).view.dmaCredit) ((Nat.zero_add _).trans ((row_credit c r).trans (expect_send X c r).symm))) $$ [Hc HO Hat]
  · isplitr; · iexact HI
    isplitl [Hc]; · rw [row_credit c r]; iexact Hc
    isplitl [HO]; · iexact HO
    isplitr; · rw [MayWait_zero]; iempintro
    iexact Hat
  iintro ⟨HO, Hat, -, Hpay⟩
  ihave Hs := (Entails.of_eq (rest_send X c r)) $$ Hpay
  imod (Rounds.cell_close ER (rd X) (Set.mem_univ (K (c, kSend (nxtS r)))) (fun h => h) (R := 0 + 1) (duties_later X (sendCell c (nxtS r)))) $$ [Hat] with Hz
  · isplitr; · iexact HI
    iexact Hat
  iapply Hk
  isplitl [Hs Hz]
  · isplitl [Hs] <;> iassumption
  isplitr; · iexact HR
  iexists _; iexact HO

/-! ## The device's own rows -/

theorem slot_set (j : Fin 32) : (slotM j).view.set = (gM.access (slotR j)).set :=
  View.set_reshape (gM.slice (slotR j) (fun _ => rfl)).view squeezes_S1x32x32_S32x32.numel_eq

abbrev rowR (j : Fin 32) : Rect S1024x32 := Rect.unit (s := S1024x32) ![32 * j.val, 0] S32x32.size (inb_row j)

theorem wp_own (Q : PUnit → sProp 𝕄) (p : Body F) :
    iprop(rowPts X c c ∗ slotAny (F := F) c c) ⊢ iprop(((rowPts X c c ∗ held X c c) -∗ WP c p Q) -∗ WP c (ownStep c p) Q) := by
  have key {o4 : Fin 2 → ℕ} {o5 : Fin 3 → ℕ} (e4 : o4 = ![32 * c.val, 0]) (e5 : o5 = ![c.val, 0, 0])
      (i4 : ∀ a, o4 a + S32x32.size a ≤ S1024x32.size a) (i5 : ∀ a, o5 a + S1x32x32.size a ≤ S32x32x32.size a) :
      iprop(rowPts X c c ∗ slotAny (F := F) c c) ⊢ iprop(((rowPts X c c ∗ held X c c) -∗ WP c p Q)
        -∗ WP c (.op (.load xM (Rect.unit (s := S1024x32) o4 S32x32.size i4).toLoadRect (View.loadsAt_vmem h_S32x32)) fun v =>
          .op (.load gM (Rect.unit (s := S32x32x32) o5 S1x32x32.size i5).toLoadRect (View.loadsAt_vmem h_S1x32x32)) fun _ =>
          .op (.store gM (Rect.unit (s := S32x32x32) o5 S1x32x32.size i5) (k0_pay1 v) Finset.univ
            (View.stores_vmem_bits_univ h_S1x32x32 rfl) (.inl rfl)) fun _ => p) Q) := by
    subst e4; subst e5
    unfold rowPts slotAny held slotPts
    iintro ⟨Hx, %f, Hs⟩ Hk
    iapply (wp_load_rect 𝒱₀ (c : Thread nD τ) none Set.univ (m := xM) (r := rowR c) (S := (rowM c).view.set) (Finset.Subset.refl _)) $$ Hx; iintro Hx
    iapply (wp_load_rect 𝒱₀ (c : Thread nD τ) none Set.univ (m := gM) (r := slotR c) (S := (slotM c).view.set) (by rw [slot_set])) $$ Hs; iintro Hs
    iapply (wp_store 𝒱₀ (c : Thread nD τ) none Set.univ (m := gM) (r := slotR c) (Mk := Finset.univ) (S := (slotM c).view.set) (by rw [slot_set, View.setOn_univ])) $$ Hs; iintro Hs
    iapply Hk
    isplitl [Hx]; · iexact Hx
    iexists ((gM.access (slotR c)).write (Elt F) f (k0_pay1 ((xM.access (rowR c)).read (Elt F) (X c))) Finset.univ)
    isplitr
    rotate_left
    · iexact Hs
    ipureintro
    refine (View.read_write_univ (v := gM.access (slotR c)) f _).trans ?_
    unfold k0_pay1 slotV
    rw [shapeCast_self]; rfl
  exact key (k0_off4_eq c) (k0_off5_eq c) _ _

/-! ## The blocks gathered -/

/-- The rows of `w` that the block from device `j` meets. -/
def wrow (w : (cc0_stg1_0 : Ref sig .tc).ty.Contents (Elt F)) (j : Fin 32) : Vec F S32x1024 .f32 :=
  wM.view.readAt (Elt F) (Rect.unit (s := S1024x1024) ![32 * j.val, 0] S32x1024.size (inb_wrow j)).toLoadRect w
/-- All of `w`, staged. -/
def wPts (w : (cc0_stg1_0 : Ref sig .tc).ty.Contents (Elt F)) : sProp 𝕄 := wM.view.loc (c : Thread nD τ) ↦{fullShare} w

theorem waits_iff : ∀ (c : Dev nD) (j : Fin 32), isSet (differs (place c) j) = 1#1 ↔ j ≠ c := by decide +kernel

/-- What device `c` has towards sender `j`'s block: its own in the slot, a peer's still to come. -/
def due (j : Fin 32) : sProp 𝕄 :=
  iprop((if j = c then held X c c else cred (tallyAt (recvCell c j) () N)) ∗ atPos ER (recvCell c j) 0 ∅ 0)

theorem wp_wait {Q : PUnit → sProp 𝕄} (j : Fin 32) (p : Body F) :
    iprop(due X c j ∗ records X K ∗ owing c 0)
      ⊢ iprop(((held X c j ∗ semVal (recvCell c j) 0 ∗ owing c 0) -∗ WP c p Q) -∗ WP c (waitStep (isSet (differs (place c) j)) j p) Q) := by
  unfold waitStep due owing
  by_cases h : j = c
  · subst h
    rw [dif_neg fun h => (waits_iff j j).mp h rfl, if_pos rfl]
    iintro ⟨⟨Hd, Hat⟩, #HR, %W, HO⟩ Hk
    ihave #HI := (inv_at X K j (kRecv j)) $$ HR
    imod (Rounds.cell_close ER (rd X) (Set.mem_univ (K (j, kRecv j))) (fun h => h) (R := 0) (duties_recv_self X j)) $$ [Hat] with Hz
    · isplitr; · iexact HI
      iexact Hat
    iapply Hk
    isplitl [Hd]; · iexact Hd
    isplitl [Hz]; · iexact Hz
    iexists W; iexact HO
  · rw [dif_pos ((waits_iff c j).mpr h), if_neg h]
    iintro ⟨⟨Hd, Hat⟩, #HR, %W, HO⟩ Hk
    ihave #HI := (inv_at X K c (kRecv j)) $$ HR
    iapply (Rounds.wp_wait_rest_token 𝒱₀ ER (rd X) (c : Thread nD τ) none (κ := K (c, kRecv j))
        (wpE_waitDma2_eq 𝒱₀ (c : Thread nD τ) none Set.univ) (Set.mem_univ _) () (O := 0) (W := W) (R := 0) (m := 0) (T := ∅)
        (k' := (slotM j).view.dmaCredit) ((Nat.zero_add _).trans (expect_recv X c j h).symm)) $$ [Hd HO Hat]
    · isplitr; · iexact HI
      isplitl [Hd]; · iexact Hd
      isplitl [HO]; · iexact HO
      isplitr; · rw [MayWait_zero]; iempintro
      iexact Hat
    iintro ⟨HO, Hat, -, Hpay⟩
    ihave Hs := (Entails.of_eq (rest_recv X c j h)) $$ Hpay
    imod (Rounds.cell_close ER (rd X) (Set.mem_univ (K (c, kRecv j))) (fun h => h) (R := 0 + 1) (duties_later X (recvCell c j))) $$ [Hat] with Hz
    · isplitr; · iexact HI
      iexact Hat
    iapply Hk
    isplitl [Hs]; · iexact Hs
    isplitl [Hz]; · iexact Hz
    iexists _; iexact HO

theorem wp_gather {Q : PUnit → sProp 𝕄} (w : (cc0_stg1_0 : Ref sig .tc).ty.Contents (Elt F)) :
    ∀ (l : List (Fin 32)) (k : List (Vec F S1x32x32 .f32 × Vec F S32x1024 .f32) → Body F),
    iprop(bigSepL l (due X c) ∗ wPts c w ∗ records X K ∗ owing c 0)
      ⊢ iprop(((bigSepL l (fun j => iprop(held X c j ∗ semVal (recvCell c j) 0)) ∗ wPts c w ∗ owing c 0)
          -∗ WP c (k (l.map fun j => (slotV X c j, wrow w j))) Q) -∗ WP c (gather c l k) Q)
  | [], k => by
    iintro ⟨H, Hw, #HR, HO⟩ Hk
    iapply Hk
    isplitl [H]; · iexact H
    isplitl [Hw] <;> iassumption
  | j :: l, k => by
    rw [bigSepL_cons', bigSepL_cons']
    iintro ⟨⟨Hj, Hl⟩, Hw, #HR, HO⟩ Hk
    iapply (wp_wait X K c j _) $$ [Hj HO]
    · isplitl [Hj]; · iexact Hj
      isplitr <;> iassumption
    unfold held slotStep rowStep
    iintro ⟨⟨%f, %hf, Hs⟩, Hz, HO⟩
    unfold slotPts
    iapply (wp_load_rect 𝒱₀ (c : Thread nD τ) none Set.univ (m := gM) (r := slotR j) (S := (slotM j).view.set) (by rw [slot_set])) $$ Hs; iintro Hs
    unfold wPts
    iapply (wp_load 𝒱₀ (c : Thread nD τ) none Set.univ (m := wM) (Finset.subset_univ _)) $$ Hw; iintro Hw
    rw [show (gM.access (slotR j)).read (Elt F) f = slotV X c j from hf]
    iapply (wp_gather w l fun t => k ((slotV X c j, wrow w j) :: t)) $$ [Hl Hw HO]
    · isplitl [Hl]; · iexact Hl
      isplitl [Hw]; · unfold wPts; iexact Hw
      isplitr <;> iassumption
    iintro ⟨Hl, Hw, HO⟩
    iapply Hk
    isplitl [Hs Hz Hl]
    · isplitl [Hs Hz]
      · isplitl [Hs]
        · iexists f; isplitr
          · ipureintro; exact hf
          iexact Hs
        iexact Hz
      iexact Hl
    isplitl [Hw]; · unfold wPts; iexact Hw
    iexact HO

end Cert.Exchange

end
-- ==== Proof.Body.lean ====
/-
The body, from what the launch gives a device to its result: the steps put together.
-/
module

public import proofs.«01_k».proof.Proof.Steps
public import proofs.«01_k».proof.Proof.Gen.KernelIdeal.Points
public import Idealize.ShloMosaic.Lib.Ring

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the devices -/

/-- A family over the devices: one of them, and its peers. -/
theorem focus (c : Dev nD) (Φ : Fin 32 → sProp 𝕄) :
    bigSep Finset.univ Φ = iprop(Φ c ∗ bigSep Finset.univ fun r : Fin 31 => Φ (peer c r)) := by
  rw [bigSep_erase (Finset.mem_univ (c : Fin 32)), show (Finset.univ : Finset (Fin 32)).erase c = _ from others_eq c, bigSep_map]; rfl

theorem nxtS_eq (r : Fin 31) : peer 0 r = nxtS r := Fin.ext (by
  rw [peer_val]; show (0 + r.val + 1) % 32 = 1 + r.val; omega)

/-- A family over the send semaphores: the first, and those of the peers. -/
theorem focus_send (Φ : Fin 32 → sProp 𝕄) :
    bigSep Finset.univ Φ = iprop(Φ 0 ∗ bigSep Finset.univ fun r : Fin 31 => Φ (nxtS r)) := by
  rw [focus 0 Φ]; simp only [nxtS_eq]

theorem over_peers (Φ : Fin 31 → sProp 𝕄) : bigSep Finset.univ Φ = bigSepL peers Φ :=
  bigSep_univ_eq_bigSepL peers (by decide +kernel) (by decide +kernel) Φ
theorem over_senders (Φ : Fin 32 → sProp 𝕄) : bigSep Finset.univ Φ = bigSepL senders Φ :=
  bigSep_univ_eq_bigSepL senders (by decide +kernel) (by decide +kernel) Φ

theorem pairs_eq (Φ Ψ : Fin 31 → sProp 𝕄) :
    (bigSepL peers fun r => iprop(Φ r ∗ Ψ r)) = iprop(bigSep Finset.univ Φ ∗ bigSep Finset.univ Ψ) := by
  rw [← over_peers, bigSep_sep']

/-- A family over the semaphores of a device. -/
theorem over_kinds (Φ : Kd → sProp 𝕄) : bigSep Finset.univ Φ = iprop(Φ kBar
    ∗ (bigSep Finset.univ fun j : Fin 32 => Φ (kSend j)) ∗ bigSep Finset.univ fun j : Fin 32 => Φ (kRecv j)) := by
  rw [bigSep_univ_sum, bigSep_univ_sum, Finset.univ_unique, bigSep_singleton]; rfl

/-! ## Buffers held piece by piece -/

theorem row_set (j : Fin 32) : (rowM j).view.set = (rowR j).set := View.set_slice_whole cc0_stg0_0 (rowR j)
theorem slot_set' (j : Fin 32) : (slotM j).view.set = (slotR j).set :=
  (slot_set j).trans (View.set_slice_whole cc0_scratch0 (slotR j))

theorem rows_disjoint (j j' : Fin 32) (h : j ≠ j') : Disjoint (rowR j).set (rowR j').set :=
  Ring.lead_disjoint (s := S1024x32) (0 : Fin 2) 32 (fun b : Fin 32 => ![32 * b.val, 0]) S32x32.size inb_row (fun _ => rfl) rfl j j' h
theorem rows_cover : Finset.univ.biUnion (fun j => (rowR j).set) = Finset.univ :=
  Ring.lead_cover (s := S1024x32) (0 : Fin 2) 32 (fun b : Fin 32 => ![32 * b.val, 0]) S32x32.size inb_row (fun _ => rfl)
    (fun b a h => by match a with | 0 => exact absurd rfl h | 1 => rfl) rfl (fun a h => by match a with | 0 => exact absurd rfl h | 1 => rfl) rfl
theorem slots_disjoint (j j' : Fin 32) (h : j ≠ j') : Disjoint (slotR j).set (slotR j').set :=
  Ring.lead_disjoint (s := S32x32x32) (0 : Fin 3) 1 (fun b : Fin 32 => ![b.val, 0, 0]) S1x32x32.size inb_slot (fun b => (Nat.one_mul b.val).symm) rfl j j' h
theorem slots_cover : Finset.univ.biUnion (fun j => (slotR j).set) = Finset.univ :=
  Ring.lead_cover (s := S32x32x32) (0 : Fin 3) 1 (fun b : Fin 32 => ![b.val, 0, 0]) S1x32x32.size inb_slot (fun b => (Nat.one_mul b.val).symm)
    (fun b a h => by match a with | 0 => exact absurd rfl h | 1 => rfl | 2 => rfl) rfl
    (fun a h => by match a with | 0 => exact absurd rfl h | 1 => rfl | 2 => rfl) rfl

variable (X : (c : Dev nD) → (cc0_stg0_0 : Ref sig .tc).ty.Contents (Elt F)) (c : Dev nD)

theorem rows_eq : ((c : Thread nD τ).loc cc0_stg0_0 ↦{fullShare} X c : sProp 𝕄) = bigSep Finset.univ (rowPts X c) := by
  rw [Ring.pointsTo_blocks (fun j : Fin 32 => (rowR j).set) rows_disjoint rows_cover]
  exact bigSep_congr fun j _ => by unfold rowPts; rw [row_set]

theorem slotPts_eq (j : Fin 32) (f : Buf (Elt F) ((c : Thread nD τ).loc cc0_scratch0)) :
    (slotPts c j f : sProp 𝕄) = ((c : Thread nD τ).loc cc0_scratch0 ↦[(slotR j).set]{fullShare} f) := by
  unfold slotPts; rw [slot_set']
theorem slotAny_eq (j : Fin 32) :
    (slotAny c j : sProp 𝕄) = iprop(∃ f : Buf (Elt F) ((c : Thread nD τ).loc cc0_scratch0), (c : Thread nD τ).loc cc0_scratch0 ↦[(slotR j).set]{fullShare} f) :=
  congrArg BIBase.exists (funext fun f => slotPts_eq c j f)

theorem slot_any (j : Fin 32) (f : Buf (Elt F) ((c : Thread nD τ).loc cc0_scratch0)) :
    ((c : Thread nD τ).loc cc0_scratch0 ↦[(slotR j).set]{fullShare} f : sProp 𝕄) ⊢ slotAny c j := by
  rw [slotAny_eq]; iintro H; iexists f; iexact H

theorem slots_split : iprop(∃ f, (c : Thread nD τ).loc cc0_scratch0 ↦{fullShare} f) ⊢ (bigSep Finset.univ (slotAny c) : sProp 𝕄) := by
  iintro ⟨%f, H⟩
  ihave H' := (Entails.of_eq (Ring.pointsTo_blocks (fun j : Fin 32 => (slotR j).set) slots_disjoint slots_cover f)) $$ H
  have h : (bigSep Finset.univ fun j : Fin 32 => ((c : Thread nD τ).loc cc0_scratch0 ↦[(slotR j).set]{fullShare} f : sProp 𝕄))
      ⊢ bigSep Finset.univ (slotAny c) := bigSep_mono fun j _ => slot_any c j f
  iapply h
  iexact H'

theorem slots_join (f₀ : Buf (Elt F) ((c : Thread nD τ).loc cc0_scratch0)) :
    (bigSep Finset.univ (slotAny c) : sProp 𝕄) ⊢ iprop(∃ f, (c : Thread nD τ).loc cc0_scratch0 ↦{fullShare} f) := by
  refine (Entails.of_eq (bigSep_congr fun j _ => slotAny_eq c j)).trans ?_
  exact Ring.pointsTo_blocks_join_exists (ℓ := (c : Thread nD τ).loc cc0_scratch0) (q := fullShare) (fun j : Fin 32 => (slotR j).set) slots_disjoint slots_cover f₀

theorem held_any (j : Fin 32) : held X c j ⊢ (slotAny c j : sProp 𝕄) := by
  unfold held slotAny
  iintro ⟨%f, -, H⟩
  iexists f; iexact H

theorem helds_any : (bigSep Finset.univ fun j : Fin 32 => held X c j) ⊢ (bigSep Finset.univ (slotAny c) : sProp 𝕄) :=
  bigSep_mono fun j _ => held_any X c j

/-! ## What a device starts with -/

/-- Its positions on its semaphores and the tokens of the payments it makes. -/
def linear : sProp 𝕄 :=
  iprop((bigSep Finset.univ fun k : Kd => atPos ER (kcell (c, k)) 0 ∅ 0)
    ∗ (bigSep Finset.univ fun r : Fin 31 => dutyTok ER (barCell (peer c r)) 0 c)
    ∗ (bigSep Finset.univ fun r : Fin 31 => dutyTok ER (sendCell c (nxtS r)) 0 c)
    ∗ bigSep Finset.univ fun r : Fin 31 => dutyTok ER (recvCell (peer c r) c) 0 c)

/-- What it may wait for: the signals of its peers and their blocks. -/
def credits : sProp 𝕄 :=
  iprop(cred (tallyAt (barCell c) () 31) ∗ bigSep Finset.univ fun r : Fin 31 => cred (tallyAt (recvCell c (peer c r)) () N))

/-- The sum device `c` stores. -/
def sum (w : (cc0_stg1_0 : Ref sig .tc).ty.Contents (Elt F)) : (cc0_stg2_0 : Ref sig .tc).ty.Contents (Elt F) :=
  total (senders.map fun j => (slotV X c j, wrow w j))

theorem off_zero : (![0, 0] : Fin 2 → Nat) = fun _ => 0 := funext fun a => by fin_cases a <;> rfl
theorem write_out (f w : (cc0_stg2_0 : Ref sig .tc).ty.Contents (Elt F)) :
    (oM.access (Rect.unit (s := S32x1024) ![0, 0] S32x1024.size inb_S32x1024_S32x1024_0_0) : View sig .tc _ _ _).write (Elt F) f w Finset.univ = w :=
  Memref.write_access_unit_zero_univ (Elt F) cc0_stg2_0 off_zero _ f w

variable (K : Dev nD × Kd → ℕ)

/-- What a device has towards each sender's block, from its own slot, the credits and its positions. -/
theorem dues_eq : (bigSep Finset.univ (due X c) : sProp 𝕄)
    = iprop((held X c c ∗ bigSep Finset.univ fun r : Fin 31 => cred (tallyAt (recvCell c (peer c r)) () N))
      ∗ bigSep Finset.univ fun j : Fin 32 => atPos ER (recvCell c j) 0 ∅ 0) := by
  unfold due
  rw [bigSep_sep', focus c fun j => if j = c then held X c c else cred (tallyAt (recvCell c j) () N), if_pos rfl,
    bigSep_congr fun r _ => if_neg (peer_ne c r)]

theorem wp_finish {Q : PUnit → sProp 𝕄} (l : List (Vec F S1x32x32 .f32 × Vec F S32x1024 .f32)) (g) :
    iprop((bigSepL peers fun r => iprop(cred (tallyAt (sendCell c (nxtS r)) () N) ∗ atPos ER (sendCell c (nxtS r)) 0 ∅ 0))
        ∗ records X K ∗ owing c 0 ∗ ((c : Thread nD τ).loc cc0_stg2_0 ↦{fullShare} g))
      ⊢ iprop((((bigSepL peers fun r => iprop(rowPts X c (peer c r) ∗ semVal (sendCell c (nxtS r)) 0))
          ∗ owing c 0 ∗ ((c : Thread nD τ).loc cc0_stg2_0 ↦{fullShare} total l)) -∗ |={Set.univ}=> Q ⟨⟩) -∗ WP c (finish c l) Q) := by
  unfold finish
  iintro ⟨Hl, #HR, HO, Hout⟩ Hk
  iapply (wp_load 𝒱₀ (c : Thread nD τ) none Set.univ (m := oM) (Finset.subset_univ _)) $$ Hout; iintro Hout
  iapply (wp_store 𝒱₀ (c : Thread nD τ) none Set.univ (m := oM)
    (r := Rect.unit (s := S32x1024) ![0, 0] S32x1024.size inb_S32x1024_S32x1024_0_0) (Mk := Finset.univ) (Finset.subset_univ _)) $$ Hout; iintro Hout
  rw [write_out]
  iapply (wp_loop c (doneStep c) _ _ (fun _ => iprop(records X K ∗ owing c 0)) Q (step_done X K c Q) peers (.ret ⟨⟩)) $$ [Hl HO]
  · isplitl [Hl]; · iexact Hl
    isplitr <;> iassumption
  iintro ⟨Hl, -, HO⟩
  unfold WP; rw [wp_ret]
  iapply Hk
  isplitl [Hl]; · iexact Hl
  isplitl [HO] <;> iassumption

set_option maxHeartbeats 1600000 in
/-- The body on device `c`: every peer is told of its entry before it copies, each wait gives it the slot it loads, and
    it leaves the sum in its result with every semaphore back at zero. -/
theorem wp_body {Q : PUnit → sProp 𝕄} (w : (cc0_stg1_0 : Ref sig .tc).ty.Contents (Elt F)) (g) :
    iprop(records X K ∗ linear c ∗ credits c ∗ levAts L lv ∗ owing c (O₀ c)
        ∗ (∃ f, (c : Thread nD τ).loc cc0_scratch0 ↦{fullShare} f)
        ∗ ((c : Thread nD τ).loc cc0_stg0_0 ↦{fullShare} X c) ∗ ((c : Thread nD τ).loc cc0_stg1_0 ↦{fullShare} w)
        ∗ ((c : Thread nD τ).loc cc0_stg2_0 ↦{fullShare} g))
      ⊢ iprop((((∃ f, (c : Thread nD τ).loc cc0_scratch0 ↦{fullShare} f) ∗ (bigSep Finset.univ fun k : Kd => semVal (kcell (c, k)) 0) ∗ owing c 0
          ∗ ((c : Thread nD τ).loc cc0_stg0_0 ↦{fullShare} X c) ∗ ((c : Thread nD τ).loc cc0_stg1_0 ↦{fullShare} w)
          ∗ ((c : Thread nD τ).loc cc0_stg2_0 ↦{fullShare} sum X c w)) -∗ Q ⟨⟩) -∗ WP c (bodyOn c) Q) := by
  unfold bodyOn linear credits O₀
  rw [over_kinds, over_kinds, rows_eq, focus c (rowPts X c), focus_send fun j => atPos ER (kcell (c, kSend j)) 0 ∅ 0,
    focus_send fun j => semVal (kcell (c, kSend j)) 0]
  iintro ⟨#HR, ⟨⟨HaB, ⟨HaS0, HaS⟩, HaV⟩, HtB, HtS, HtV⟩, ⟨HcB, HcV⟩, #Hlev, HO, Hscr, ⟨Hxo, Hx⟩, Hw, Hout⟩ Hk
  icases Hscr with ⟨%f₀, Hscr⟩
  ihave Hsl := (slots_split c) $$ [Hscr]
  · iexists f₀; iexact Hscr
  ihave Hsl := (Entails.of_eq (focus c (slotAny c))) $$ Hsl
  icases Hsl with ⟨Hso, Hsl⟩
  -- every peer is told, with the slot it fills
  iapply (wp_loop c (signalStep c) (fun r => iprop(dutyTok ER (barCell (peer c r)) 0 c ∗ slotAny c (peer c r))) (fun _ => iprop(emp))
    (fun l => iprop(records X K ∗ owing c (owedB c l))) Q (step_signal X K c Q) peers _) $$ [HtB Hsl HO]
  · isplitl [HtB Hsl]
    · rw [← over_peers, bigSep_sep']
      isplitl [HtB] <;> iassumption
    isplitr <;> iassumption
  iintro ⟨-, -, HO⟩
  rw [show owedB c [] = owedS c peers from rfl]
  iapply (wp_barrier X K c Q _) $$ [HcB HaB HO]
  · isplitr; · iexact HR
    isplitr; · iexact Hlev
    isplitl [HcB]; · iexact HcB
    isplitl [HaB] <;> iassumption
  iintro ⟨Hsl, HzB, HO⟩
  -- the copies
  iapply (wp_loop c (sendStep c) _ _ (fun l => iprop(records X K ∗ owing c (owedS c l))) Q (step_send X K c Q) peers _) $$ [Hx Hsl HtS HtV HO]
  · isplitl [Hx Hsl HtS HtV]
    · rw [← over_peers, bigSep_sep', bigSep_sep', bigSep_sep']
      isplitl [Hx]; · iexact Hx
      isplitl [Hsl]; · iexact Hsl
      isplitl [HtS] <;> iassumption
    isplitr <;> iassumption
  iintro ⟨HcS, -, HO⟩
  rw [show owedS c [] = 0 from rfl]
  -- the device's own rows
  iapply (wp_own X c Q _) $$ [Hxo Hso]
  · isplitl [Hxo] <;> iassumption
  iintro ⟨Hxo, Hso⟩
  -- the blocks
  iapply (wp_gather X K c w senders (finish c)) $$ [Hso HcV HaV Hw HO]
  · isplitl [Hso HcV HaV]
    · rw [← over_senders, dues_eq]
      isplitl [Hso HcV]
      · isplitl [Hso] <;> iassumption
      iexact HaV
    isplitl [Hw]; · unfold wPts; iexact Hw
    isplitr <;> iassumption
  iintro ⟨Hg, Hw, HO⟩
  ihave Hg := (Entails.of_eq ((over_senders _).symm.trans (bigSep_sep' _ _ _))) $$ Hg
  icases Hg with ⟨Hg, HzV⟩
  -- the result, and the copies gone
  iapply (wp_finish X c K _ g) $$ [HcS HaS HO Hout]
  · isplitl [HcS HaS]
    · rw [pairs_eq]
      isplitl [HcS]
      · iapply (Entails.of_eq (over_peers _).symm); iexact HcS
      iexact HaS
    isplitr; · iexact HR
    isplitl [HO] <;> iassumption
  iintro ⟨Hx, HO, Hout⟩
  ihave Hx := (Entails.of_eq ((over_peers _).symm.trans (bigSep_sep' _ _ _))) $$ Hx
  icases Hx with ⟨Hx, HzS⟩
  imod (Rounds.cell_close ER (rd X) (Set.mem_univ (K (c, kSend 0))) (fun h => h) (R := 0) (duties_send_zero X c)) $$ [HaS0] with HzS0
  · isplitr; · iapply (inv_at X K c (kSend 0)); iexact HR
    iexact HaS0
  imodintro
  iapply Hk
  isplitl [Hg]
  · iapply (slots_join c f₀)
    iapply (helds_any X c)
    iexact Hg
  isplitl [HzB HzS0 HzS HzV]
  · isplitl [HzB]; · iexact HzB
    isplitl [HzS0 HzS]
    · isplitl [HzS0] <;> iassumption
    iexact HzV
  isplitl [HO]; · iexact HO
  isplitl [Hxo Hx]
  · isplitl [Hxo] <;> iassumption
  isplitl [Hw]; · unfold wPts; iexact Hw
  iexact Hout

end Cert.Exchange

end
-- ==== Proof.Launch.lean ====
/-
The launch: the ghost state and the credits every device starts with, and the run of the program for any float values.
-/
module

public import proofs.«01_k».proof.Proof.Body
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Credits -/

theorem owedS_ne {c : Dev nD} {g : GSem nD τ sig} (l : List (Fin 31)) (h : ∀ p, g ≠ recvCell p c) : owedS c l g () = 0 := by
  by_contra hn
  obtain ⟨p, hp⟩ := owedS_pos (Nat.pos_of_ne_zero hn)
  exact h p hp

theorem bar_ne_recv (c p d : Dev nD) : barCell c ≠ recvCell p d := fun h => by cases (kcell_inj.mp h).2
theorem recv_ne_bar (c j p : Dev nD) : recvCell c j ≠ barCell p := fun h => by cases (kcell_inj.mp h).2

/-- Each turn raises each barrier once. -/
theorem owed_bar (c : Dev nD) : ∀ l : List (Fin 31), ∑ d : Dev nD, owedB d l (barCell c) () = l.length
  | [] => Finset.sum_eq_zero fun d _ => owedS_ne peers fun p => bar_ne_recv c p d
  | r :: l => by
    have h (d : Dev nD) : owedB d (r :: l) (barCell c) () = owedB d l (barCell c) () + if d = back c r then 1 else 0 := by
      rw [owedB, Pi.add_apply, Finsupp.add_apply, tallyAt_apply]
      congr 1
      exact if_congr ⟨fun h => (peer_eq_iff d c r).mp (kcell_inj.mp h.1).1, fun h => ⟨by rw [← (peer_eq_iff d c r).mpr h], rfl⟩⟩ rfl rfl
    rw [Finset.sum_congr rfl fun d _ => h d, Finset.sum_add_distrib, owed_bar c l, Finset.sum_ite_eq' Finset.univ (back c r) fun _ => 1,
      if_pos (Finset.mem_univ _), List.length_cons]

/-- A device owes a peer's receive cell one block, on the turn of that peer. -/
theorem owedS_recv (c j : Dev nD) (h : c ≠ j) : ∀ l : List (Fin 31), owedS j l (recvCell c j) () = N * l.count (turn j c h)
  | [] => rfl
  | r :: l => by
    rw [owedS, Pi.add_apply, Finsupp.add_apply, tallyAt_apply, owedS_recv c j h l, List.count_cons, Nat.mul_add]
    congr 1
    by_cases hr : r = turn j c h
    · subst hr; rw [peer_turn, if_pos ⟨rfl, rfl⟩, beq_self_eq_true]; exact (Nat.mul_one _).symm
    · rw [if_neg fun hc => hr (peer_injective j ((kcell_inj.mp hc.1).1.symm.trans (peer_turn j c h).symm)), beq_eq_false_iff_ne.mpr hr]
      exact (Nat.mul_zero _).symm

theorem owedB_recv (d c j : Dev nD) : ∀ l : List (Fin 31), owedB d l (recvCell c j) () = owedS d peers (recvCell c j) ()
  | [] => rfl
  | r :: l => by
    rw [owedB, Pi.add_apply, Finsupp.add_apply, tallyAt_apply, if_neg fun h => recv_ne_bar c j _ h.1, Nat.add_zero, owedB_recv d c j l]

theorem peers_count : ∀ r : Fin 31, peers.count r = 1 := by decide +kernel

theorem owed_recv (c j : Dev nD) (h : c ≠ j) : ∑ d : Dev nD, O₀ d (recvCell c j) () = N := by
  unfold O₀
  rw [Finset.sum_eq_single j (fun d _ hd => (owedB_recv d c j peers).trans (owedS_ne peers fun p hp => hd (by
      have := (kcell_inj.mp hp).2
      exact (Sum.inr.inj (Sum.inr.inj this)).symm))) fun hn => absurd (Finset.mem_univ _) hn]
  rw [owedB_recv, owedS_recv c j h, peers_count, Nat.mul_one]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  exact owed_bar c peers

theorem launch_recv (c : Dev nD) (r : Fin 31) :
    tallyOn (recvCell c (peer c r)) (launchCredit (Pipeline.owing O₀) 0 (recvCell c (peer c r)))
      = (tallyAt (recvCell c (peer c r)) () N : CellTallies nD τ sig Unit) := by
  unfold tallyAt; refine congrArg _ (Finsupp.ext fun u => ?_); cases u
  rw [Pipeline.launchCredit_owing, Finsupp.single_eq_same]
  exact owed_recv c (peer c r) (peer_ne c r).symm

/-- The receive semaphores of the blocks of the peers. -/
def recvOf (c : Dev nD) : Fin 31 ↪ SemLoc sig :=
  ⟨fun r => csem (kRecv (peer c r)), fun r r' h => peer_injective c (Sum.inr.inj (Sum.inr.inj (csem_injective h)))⟩

theorem creds (c : Dev nD) : (Pipeline.launchCred O₀ c : sProp 𝕄) ⊢ credits c := by
  have hs : Finset.univ.map (recvOf c) ⊆ Finset.univ.erase (SemLoc.reg barS) := fun sm hm => by
    obtain ⟨r, -, rfl⟩ := Finset.mem_map.mp hm
    exact Finset.mem_erase.mpr ⟨fun h => (nomatch csem_injective (show csem (kRecv (peer c r)) = csem kBar from h)), Finset.mem_univ _⟩
  unfold Pipeline.launchCred credits
  rw [bigSep_univ_at _ (SemLoc.reg barS), launch_bar]
  refine sep_mono_right ((bigSep_subset hs).trans ?_)
  rw [bigSep_map]
  exact Entails.of_eq (bigSep_congr fun r _ => congrArg cred (launch_recv c r))

/-! ## The ghost state -/

/-- The tokens, named by the device that pays and the turn it pays on. -/
abbrev Tk : Type := Fin 31 ⊕ (Fin 31 ⊕ Fin 31)
abbrev tokOf (x : Dev nD × Tk) : GSem nD τ sig × ℕ × Dev nD := match x.2 with
  | .inl r => (barCell (peer x.1 r), 0, x.1)
  | .inr (.inl r) => (sendCell x.1 (nxtS r), 0, x.1)
  | .inr (.inr r) => (recvCell (peer x.1 r) x.1, 0, x.1)

theorem nxtS_injective : Function.Injective nxtS := fun r r' h => Fin.ext (by
  have : 1 + r.val = 1 + r'.val := congrArg Fin.val h
  omega)

theorem tokOf_injective : Function.Injective tokOf := by
  rintro ⟨c, j⟩ ⟨c', j'⟩ h
  have h1 : c = c' := by
    have h0 (x : Dev nD × Tk) : (tokOf x).2.2 = x.1 := by rcases x with ⟨c, r | r | r⟩ <;> rfl
    exact (h0 (c, j)).symm.trans ((congrArg (fun x => x.2.2) h).trans (h0 (c', j')))
  subst h1
  have hg := congrArg Prod.fst h
  rcases j with r | r | r <;> rcases j' with r' | r' | r' <;> have hk := kcell_inj.mp hg
  · rw [peer_injective c hk.1]
  · cases hk.2
  · cases hk.2
  · cases hk.2
  · rw [nxtS_injective (Sum.inl.inj (Sum.inr.inj hk.2))]
  · cases hk.2
  · cases hk.2
  · cases hk.2
  · rw [peer_injective c hk.1]

def cells : Finset (GSem nD τ sig) := Finset.univ.map ⟨kcell, kcell_injective⟩
def toks : Finset (GSem nD τ sig × ℕ × Dev nD) := Finset.univ.map ⟨tokOf, tokOf_injective⟩

def u₀ : UU := (initOf (Pipeline.cells cfgs cellOf_inj) (Pipeline.launchToks cfgs cellOf_inj), initOf cells toks)

variable (X : (c : Dev nD) → (cc0_stg0_0 : Ref sig .tc).ty.Contents (Elt F))

/-- The tokens of the payments device `c` makes. -/
def pays (c : Dev nD) : sProp 𝕄 :=
  iprop((bigSep Finset.univ fun r : Fin 31 => dutyTok ER (barCell (peer c r)) 0 c)
    ∗ (bigSep Finset.univ fun r : Fin 31 => dutyTok ER (sendCell c (nxtS r)) 0 c)
    ∗ bigSep Finset.univ fun r : Fin 31 => dutyTok ER (recvCell (peer c r) c) 0 c)

/-- What the launch element deals device `c`. -/
def G (c : Dev nD) : sProp 𝕄 :=
  iprop((bigSep Finset.univ fun k : Kd => roundState ER (rd X) (kcell (c, k)) 0)
    ∗ (bigSep Finset.univ fun k : Kd => atPos ER (kcell (c, k)) 0 ∅ 0) ∗ (bigSep Finset.univ fun k : Kd => reached ER (kcell (c, k)) 0) ∗ pays c)

/-- What it starts from once the cells' invariants are allocated. -/
def G' (c : Dev nD) : sProp 𝕄 := iprop(∃ K, records X K ∗ linear c)

theorem fund_cells : BI.own (ER (initOf cells toks)) ⊢ (|==> bigSep Finset.univ (G X) : sProp 𝕄) := by
  have hX (Φ : GSem nD τ sig → sProp 𝕄) : bigSep cells Φ = bigSep Finset.univ fun c : Dev nD => bigSep Finset.univ fun k : Kd => Φ (kcell (c, k)) := by
    unfold cells; rw [bigSep_map, bigSep_univ_prod]; rfl
  have hT : bigSep toks (fun x => (dutyTok ER x.1 x.2.1 x.2.2 : sProp 𝕄)) = bigSep Finset.univ fun c : Dev nD => pays c := by
    unfold toks; rw [bigSep_map, bigSep_univ_prod]
    exact bigSep_congr fun c _ => by unfold pays; rw [bigSep_univ_sum, bigSep_univ_sum]; rfl
  iintro HX
  imod (Rounds.fund ER (rd X) cells toks) $$ HX with ⟨Hst, Hr, Hat, Htok⟩
  imodintro
  ihave Hst' := (Entails.of_eq (hX fun g => roundState ER (rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The barrier's is the launch's one unscoped semaphore; -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
/-- with the kernel's own they are the cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Kd => semVal (kcell (c, k)) 0 : sProp 𝕄) := by
  rw [unscopedSems0_eq, bigSep_univ_sum, Finset.univ_unique, bigSep_singleton]; rfl

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Kd => iprop(∃ κ : ℕ, cellInv ER (rd X) κ (kcell (c, k))))
          ∗ (bigSep Finset.univ fun k : Kd => reached ER (kcell (c, k)) 0) ∗ linear c) := by
  have alloc : iprop((bigSep Finset.univ fun k : Kd => semVal (kcell (c, k)) 0) ∗ bigSep Finset.univ fun k : Kd => roundState ER (rd X) (kcell (c, k)) 0)
      ⊢ (|={Set.univ}=> bigSep Finset.univ fun k : Kd => iprop(∃ κ : ℕ, cellInv ER (rd X) κ (kcell (c, k))) : sProp 𝕄) := by
    rw [← bigSep_sep']
    exact (bigSep_mono fun k _ => (Rounds.body_intro ER (rd X) (kcell (c, k))).trans inv_alloc).trans (bigSep_fupd _ _)
  unfold G linear pays
  iintro ⟨Hos, Hus, Hst, Hat, Hr, Htok⟩
  ihave Hv := (Entails.of_eq (sems_eq (F := F) c)) $$ [Hos Hus]
  · isplitl [Hus] <;> iassumption
  imod alloc $$ [Hv Hst] with Hinv
  · isplitl [Hv] <;> iassumption
  imodintro
  isplitl [Hinv]; · iexact Hinv
  isplitl [Hr]; · iexact Hr
  isplitl [Hat]; · iexact Hat
  iexact Htok

theorem ghost_intro (K : Dev nD × Kd → ℕ) (c : Dev nD) : iprop(records X K ∗ linear c) ⊢ G' X c := by
  unfold G'
  iintro H
  iexists K; iexact H

theorem regroup :
    (bigSep Finset.univ fun c : Dev nD => iprop((bigSep Finset.univ fun k : Kd => iprop(∃ κ : ℕ, cellInv ER (rd X) κ (kcell (c, k))))
          ∗ (bigSep Finset.univ fun k : Kd => reached ER (kcell (c, k)) 0) ∗ linear c) : sProp 𝕄)
      ⊢ bigSep Finset.univ (G' X) := by
  rw [bigSep_sep', bigSep_sep', ← bigSep_univ_prod (fun ck : Dev nD × Kd => iprop(∃ κ : ℕ, cellInv ER (rd X) κ (kcell ck))),
    ← bigSep_univ_prod (fun ck : Dev nD × Kd => (reached ER (kcell ck) 0 : sProp 𝕄))]
  iintro ⟨HI, #HR, Hl⟩
  ihave HK := (BI.bigSep_exists_pi Finset.univ (fun (ck : Dev nD × Kd) (κ : ℕ) => (cellInv ER (rd X) κ (kcell ck) : sProp 𝕄))) $$ HI
  icases HK with ⟨%K, #HI⟩
  have h : iprop(records X K ∗ bigSep Finset.univ (linear (F := F))) ⊢ bigSep Finset.univ (G' X) :=
    bigSep_with_persistent fun c _ => ghost_intro X K c
  iapply h
  isplitr
  · unfold records
    isplitr
    · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The pipeline's proof data -/

variable (m : (ℓ : Loc nD τ sig) → Buf (Elt F) ℓ) (ρ : Dev nD → PrngReg)

/-- The memory at launch. -/
def s₀ : MemSt nD τ sig (Elt F) := ⟨m, fun _ => 0, ρ⟩

/-- The columns of `x` and the matrix `w` as staged on device `c`. -/
def xstg (c : Dev nD) : (cc0_stg0_0 : Ref sig .tc).ty.Contents (Elt F) :=
  ((cfg0.win 0).blk t0_0).view.read (Elt F) (m ((cfg0.win 0).arr.view.loc (c : Thread nD τ)))
def wstg (c : Dev nD) : (cc0_stg1_0 : Ref sig .tc).ty.Contents (Elt F) :=
  ((cfg0.win 1).blk t0_0).view.read (Elt F) (m ((cfg0.win 1).arr.view.loc (c : Thread nD τ)))
def outAt (c : Dev nD) : (cc0_stg2_0 : Ref sig .tc).ty.Contents (Elt F) := sum (xstg m) c (wstg m c)

def scr (c : Dev nD) : sProp 𝕄 := iprop(∃ f, (c : Thread nD τ).loc cc0_scratch0 ↦{fullShare} f)

def start (c : Dev nD) : sProp 𝕄 := iprop(G' (xstg m) c ∗ credits c ∗ levAts L lv)
def Φ₀ (c : Dev nD) : sProp 𝕄 := iprop(start m c ∗ scr c)
/-- After the body: the slots at some contents and every semaphore at zero. -/
def Φ₁ (c : Dev nD) : sProp 𝕄 := iprop(scr c ∗ bigSep Finset.univ fun k : Kd => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A staging buffer whole, holding `Y`. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

theorem before_x (c : Dev nD) (d) : (dats m 0 c).before (0 : Fin 3) t0_0 d = xstg m c := by
  unfold Dat.before; rw [if_pos (fetch0_0 t0_0)]; rfl
theorem before_w (c : Dev nD) (d) : (dats m 0 c).before (1 : Fin 3) t0_0 d = wstg m c := by
  unfold Dat.before; rw [if_pos (fetch0_1 t0_0)]; rfl

set_option maxRecDepth 4000 in
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show iprop(Φ₀ m c ∗ (dats m 0 c).owesAt () t0_0.castSucc
      ∗ (∃ d, stg c cc0_stg0_0 ((dats m 0 c).before (0 : Fin 3) t0_0 d))
      ∗ (∃ d, stg c cc0_stg1_0 ((dats m 0 c).before (1 : Fin 3) t0_0 d))
      ∗ (∃ d, stg c cc0_stg2_0 ((dats m 0 c).before (2 : Fin 3) t0_0 d)))
    ⊢ WP c (cc0_body xM (Memref.isWhole_whole _) wM (Memref.isWhole_whole _) oM (Memref.isWhole_whole _) gM (Memref.isWhole_whole _)
        cc0_scratch1 cc0_scratch2)
      fun _ => iprop(Φ₁ c ∗ (dats m 0 c).owesAt () t0_0.succ ∗ stg c cc0_stg0_0 (xstg m c) ∗ stg c cc0_stg1_0 (wstg m c) ∗ stg c cc0_stg2_0 (outAt m c))
  rw [body_eq]
  unfold WP
  rw [wp_deviceId]
  unfold Φ₀ start G' Dat.owesAt Pipeline.owesWithin scr
  iintro ⟨⟨⟨⟨%K, #HR, Hl⟩, Hc, #Hlev⟩, Hscr⟩, ⟨%W, %hW, HO⟩, ⟨%d0, %g0, %hg0, Hx⟩, ⟨%d1, %g1, %hg1, Hw⟩, ⟨%d2, %g2, %hg2, Hout⟩⟩
  rw [before_x] at hg0
  rw [before_w] at hg1
  subst hg0; subst hg1
  iapply (wp_body (xstg m) c K (wstg m c) g2) $$ [Hl Hc HO Hscr Hx Hw Hout]
  · isplitr; · iexact HR
    isplitl [Hl]; · iexact Hl
    isplitl [Hc]; · iexact Hc
    isplitr; · iexact Hlev
    isplitl [HO]; · unfold owing; iexists W; iexact HO
    isplitl [Hscr]; · iexact Hscr
    isplitl [Hx]; · iexact Hx
    isplitl [Hw] <;> iassumption
  unfold owing Φ₁ scr
  iintro ⟨Hscr, Hz, ⟨%W', HO⟩, Hx, Hw, Hout⟩
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-! ## The side conditions -/

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scr
  iintro ⟨Hr, Hz⟩
  ihave Hz := (Entails.of_eq (sems_eq (F := F) c).symm) $$ Hz
  icases Hz with ⟨Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- Every array of every device as the pipeline leaves it. -/
def Ends (r : PUnit × MemSt nD τ sig (Elt F)) : Prop :=
  ∀ c : Dev nD, ∀ w : Fin cfg0.W, r.2.mem ((cfg0.win w).arr.view.loc (c : Thread nD τ)) = finalA m c w

set_option maxRecDepth 8000 in
/-- From any memory with zero counters every fair run of the program ends, each device's arrays as the pipeline leaves
    them and every semaphore at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xstg m)) (G' := G' (xstg m)) (u₀ := u₀)
    (hu₀ := by
      unfold u₀
      iintro Hu
      ihave H := (ownU_pair _ _) $$ Hu
      icases H with ⟨HP, HX⟩
      imod (fund_cells (xstg m)) $$ HX with HG
      imodintro
      isplitl [HP] <;> iassumption)
    (hglob := glob (xstg m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_x (c : Dev nD) : finalA m c (0 : Fin 3) = m (win0_0.arr.view.loc (c : Thread nD τ)) :=
  (dats (F := F) m 0 c).arrAt_in (0 : Fin 3) rfl _
theorem finalA_w (c : Dev nD) : finalA m c (1 : Fin 3) = m (win0_1.arr.view.loc (c : Thread nD τ)) :=
  (dats (F := F) m 0 c).arrAt_in (1 : Fin 3) rfl _

end Cert.Exchange

end
-- ==== Proof.Value.lean ====
/-
What the kernel leaves, over the extended reals: device `c`'s rows of the matrix product.
-/
module

public import proofs.«01_k».proof.Defs
public import proofs.«01_k».proof.Proof.Launch
public import proofs.«01_k».proof.Proof.Gen.KernelIdeal.Points
public import proofs.«01_k».proof.Proof.Gen.ReferenceIdeal.Run
public import Idealize.ShloMosaic.Lib.Pipeline.ValueKit
public import Idealize.ShloMosaic.Lib.Pointwise
public import Idealize.ShloMosaic.Lib.Layout

@[expose] public section

noncomputable section

namespace Cert.Exchange

open Cert.KernelIdeal Cert.KernelIdeal.Gen
open Idealize.ShloMosaic
open Idealize.ShloMosaic.TcCoe
open Idealize.SL.Sem

/-! ## The arrays behind the windows, over any float values -/

section Arrays

variable {F : FTy → Type} [FloatOps F] (m : (ℓ : Loc nD τ sig) → Buf (Elt F) ℓ)

theorem xstg_eq (c : Dev nD) : xstg m c = m ((c : Thread nD τ).loc main_arg0) := by
  have hz : (fun a => (win0_0.index t0_0) a * main_arg0.ty.shape.size a) = fun _ => 0 :=
    funext fun a => by fin_cases a <;> decide
  exact Memref.read_access_unit_zero (Elt F) main_arg0 hz (fun a => by fin_cases a <;> decide) _

theorem wstg_eq (c : Dev nD) : wstg m c = m ((c : Thread nD τ).loc main_arg1) := by
  have hz : (fun a => (win0_1.index t0_0) a * main_arg1.ty.shape.size a) = fun _ => 0 :=
    funext fun a => by fin_cases a <;> decide
  exact Memref.read_access_unit_zero (Elt F) main_arg1 hz (fun a => by fin_cases a <;> decide) _

theorem finalA_o (c : Dev nD) : finalA m c (2 : Fin 3) = outAt m c := by
  unfold finalA
  refine (dats m 0 c).arrAt_eq_of_after_last (2 : Fin 3) t0_0 (by decide +kernel) _ fun j => ?_
  blk_simp
  rfl

end Arrays

/-! ## The product -/

/-- A block product at an index. -/
theorem term_apply (v : Vec Ideal S1x32x32 .f32) (w : Vec Ideal S32x1024 .f32) (r : Fin 32) (n : Fin 1024) :
    term (F := Ideal) v w (ix2 r n) = ∑ k : Fin 32, v (ix3 0 r k) * w (ix2 k n) := by
  pointwise [term]

theorem slot_apply (X : (c : Dev nD) → (cc0_stg0_0 : Ref sig .tc).ty.Contents (Elt Ideal)) (c j : Dev nD) (r k : Fin 32) :
    slotV X c j (ix3 0 r k) = X j (ix2 ⟨32 * c.val + r.val, by have : c.val < 32 := c.isLt; omega⟩ k) := by
  pointwise [slotV]
  unfold blk
  refine congrArg (X j) (funext fun a => Fin.ext ?_)
  fin_cases a
  · show 32 * c.val + 1 * r.val = 32 * c.val + r.val; omega
  · show 0 + 1 * k.val = k.val; omega

theorem wrow_apply (w : (cc0_stg1_0 : Ref sig .tc).ty.Contents (Elt Ideal)) (j k : Fin 32) (n : Fin 1024) :
    wrow w j (ix2 k n) = w (ix2 ⟨32 * j.val + k.val, by omega⟩ n) := by
  unfold wrow
  refine congrArg w (funext fun a => Fin.ext ?_)
  fin_cases a
  · show 32 * j.val + 1 * k.val = 32 * j.val + k.val; omega
  · show 0 + 1 * n.val = n.val; omega

theorem fold_apply (i : S32x1024.Idx) : ∀ (l : List (Vec Ideal S1x32x32 .f32 × Vec Ideal S32x1024 .f32)) (t : FVec Ideal S32x1024 .f32),
    (l.foldl (fun a p => addf a (term p.1 p.2)) t) i = t i + (l.map fun p => (term (F := Ideal) p.1 p.2 i : EReal)).sum
  | [], t => (add_zero (M := EReal) _).symm
  | p :: l, t => by
    rw [List.foldl_cons, fold_apply i l, List.map_cons, List.sum_cons, ← add_assoc]
    rfl

theorem total_apply (i : S32x1024.Idx) (f : Fin 32 → Vec Ideal S1x32x32 .f32 × Vec Ideal S32x1024 .f32) :
    total (senders.map f) i = ∑ j : Fin 32, (term (F := Ideal) (f j).1 (f j).2 i : EReal) := by
  rw [Fin.sum_univ_def, show List.finRange 32 = senders from by decide]
  show (((senders.tail.map f).foldl (fun a p => addf a (term p.1 p.2)) (term (f 0).1 (f 0).2)) i : EReal) = _
  rw [fold_apply]
  rfl

/-- Device `c`'s sum is its rows of the product of the whole arrays. -/
theorem sum_eq (X : (c : Dev nD) → (cc0_stg0_0 : Ref sig .tc).ty.Contents (Elt Ideal)) (x w : Vec Ideal ⟨2, ![1024, 1024]⟩ .f32)
    (hX : ∀ c, X c = Layout.block ⟨2, ![1024, 32]⟩ ⟨2, ![1024, 1024]⟩ 1 32 c x) (c : Dev nD) :
    sum X c w = Layout.block ⟨2, ![32, 1024]⟩ ⟨2, ![1024, 1024]⟩ 0 32 c
      (Host.dotGeneral (F := Ideal) (φ₁ := .f32) (φ₂ := .f32) Cert.ReferenceIdeal.dot_S1024x1024_S1024x1024_S1024x1024_1_0_0_1_n_n none x w) := by
  funext i
  obtain ⟨r, n, rfl⟩ : ∃ (r : Fin 32) (n : Fin 1024), i = ix2 r n := ⟨i 0, i 1, eq_ix2 i⟩
  unfold sum
  rw [total_apply]
  simp only [term_apply, slot_apply, wrow_apply, hX, Layout.block_apply]
  pointwise
  refine Fin.sum_mul_add_congr (S := 32) (n := 32) fun j k hl => congrArg₂ (· * ·) (congrArg x ?_) (congrArg w ?_)
  · exact funext fun a => Fin.ext (by
      fin_cases a
      · show 32 * c.val + r.val = c.val * 32 + r.val; omega
      · rfl)
  · exact funext fun a => Fin.ext (by
      fin_cases a
      · show 32 * j.val + k.val = j.val * 32 + k.val; omega
      · rfl)

/-! ## The claims -/

/-- The frame of the kernel's program, over any float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c (0 : Fin 3)).trans (finalA_x m c), (h.1 c (1 : Fin 3)).trans (finalA_w m c)⟩, h.2⟩)
    (run_main m ρ)

theorem algebraic : Cert.algebraic_KernelIdeal_ReferenceIdeal := fun m ρ m' ρ' _ hm => by
  refine ⟨_, (θ_run defs _ _).mono (fun r h c => ⟨?_, (h.1 c (0 : Fin 3)).trans (finalA_x m c), (h.1 c (1 : Fin 3)).trans (finalA_w m c)⟩)
    (run_main (F := Ideal) m ρ), (θ_run Cert.ReferenceIdeal.defs _ _).mono (fun r h => h 0) (Cert.ReferenceIdeal.Value.run m' ρ')⟩
  refine (h.1 c (2 : Fin 3)).trans ((finalA_o m c).trans ?_)
  unfold outAt
  rw [wstg_eq, (hm c).2]
  exact sum_eq (xstg m) _ _ (fun d => (xstg_eq m d).trans (hm d).1) c

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's program has the text of its idealization: the same bodies, -/
theorem defs₀_eq : Cert.Kernel.defs₀ (F := Bits) = Cert.KernelIdeal.defs₀ (F := Bits) :=
  congrArg Defs.onTc (funext fun ℓ => funext fun ts => match ℓ, ts with
    | ⟨0, _⟩, (_, _) => rfl
    | ⟨_ + 1, h⟩, _ => absurd h (Nat.not_lt.2 (Nat.le_add_left _ _)))
/-- the same table, -/
theorem defs_eq : Cert.Kernel.defs (F := Bits) = Cert.KernelIdeal.defs (F := Bits) :=
  congrArg (Pipeline.defs (Cert.KernelIdeal.pcfgs (F := Bits))) defs₀_eq
/-- so that its frame is the one run, at bit patterns. -/
theorem frame_kernel : Cert.quiescent_Kernel := fun m ρ _ => by
  rw [defs_eq]
  exact Cert.Exchange.frame_any (F := Bits) m ρ

theorem frame_ideal : Cert.quiescent_KernelIdeal := fun m ρ _ => Cert.Exchange.frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  frame_kernel, frame_ideal, frame_reference, trivial, Cert.Exchange.algebraic⟩

end Cert.Proof

end
